-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "masked" .f32 0x7F61B1E6#32 ⊤
  ∧ IdealRules.named_const.Statement Cert.KernelIdeal.κ "sm_scale_log2e" .f32 0x3E0293EE#32 (((11863283 / 134217728) * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
-- ==== Pre_finite_qk.lean ====
abbrev S2x768x32x128 : Shape := ⟨4, ![2, 768, 32, 128]⟩
abbrev S2x768x32 : Shape := ⟨3, ![2, 768, 32]⟩
abbrev S_ : Shape := ⟨0, ![]⟩

class Facts : Prop where
  bcast_S_S2x768x32x128 : S_.BroadcastsInDim S2x768x32x128 (![] : Fin 0 → Fin S2x768x32x128.rank)
  bcast_S_S2x768x32 : S_.BroadcastsInDim S2x768x32 (![] : Fin 0 → Fin S2x768x32.rank)

variable [Facts]

def fn {F : FTy → Type} [FloatOps F] (main_arg0 : IVec S2x768x32x128 8) (main_arg1 : FVec F S2x768x32 .f32) (main_arg2 : IVec S2x768x32x128 8) (main_arg3 : FVec F S2x768x32 .f32) (main_arg4 : FVec F S2x768x32x128 .fp8e4m3) (main_arg5 : FVec F S2x768x32 .f32) : IVec S2x768x32x128 1 × IVec S2x768x32 1 × IVec S2x768x32x128 1 × IVec S2x768x32 1 :=
  let main_c : IVec S_ 8 := constantI S_ 8 127#8
  let main_v0 : IVec S2x768x32x128 8 := broadcastInDim S2x768x32x128 ![] bcast_S_S2x768x32x128 main_c
  let main_v1 : IVec S2x768x32x128 1 := cmpi .ne main_arg0 main_v0
  let main_c_0 : IVec S_ 8 := constantI S_ 8 255#8
  let main_v2 : IVec S2x768x32x128 8 := broadcastInDim S2x768x32x128 ![] bcast_S_S2x768x32x128 main_c_0
  let main_v3 : IVec S2x768x32x128 1 := cmpi .ne main_arg0 main_v2
  let main_v4 : IVec S2x768x32x128 1 := andi main_v1 main_v3
  let main_v5 : FVec F S2x768x32 .f32 := Host.absf main_arg1
  let main_cst : FVec F S_ .f32 := constant S_ .f32 0x7F800000#32
  let main_v6 : FVec F S2x768x32 .f32 := broadcastInDim S2x768x32 ![] bcast_S_S2x768x32 main_cst
  let main_v7 : IVec S2x768x32 1 := cmpf .olt main_v5 main_v6
  let main_c_1 : IVec S_ 8 := constantI S_ 8 127#8
  let main_v8 : IVec S2x768x32x128 8 := broadcastInDim S2x768x32x128 ![] bcast_S_S2x768x32x128 main_c_1
  let main_v9 : IVec S2x768x32x128 1 := cmpi .ne main_arg2 main_v8
  let main_c_2 : IVec S_ 8 := constantI S_ 8 255#8
  let main_v10 : IVec S2x768x32x128 8 := broadcastInDim S2x768x32x128 ![] bcast_S_S2x768x32x128 main_c_2
  let main_v11 : IVec S2x768x32x128 1 := cmpi .ne main_arg2 main_v10
  let main_v12 : IVec S2x768x32x128 1 := andi main_v9 main_v11
  let main_v13 : FVec F S2x768x32 .f32 := Host.absf main_arg3
  let main_cst_3 : FVec F S_ .f32 := constant S_ .f32 0x7F800000#32
  let main_v14 : FVec F S2x768x32 .f32 := broadcastInDim S2x768x32 ![] bcast_S_S2x768x32 main_cst_3
  let main_v15 : IVec S2x768x32 1 := cmpf .olt main_v13 main_v14
  (main_v4, main_v7, main_v12, main_v15)
-- ==== Kernel.lean ====
abbrev S2x768x32x128 : Shape := ⟨4, ![2, 768, 32, 128]⟩
abbrev S2x768x32 : Shape := ⟨3, ![2, 768, 32]⟩
abbrev S2x32x768x128 : Shape := ⟨4, ![2, 32, 768, 128]⟩
abbrev S2x32x768 : Shape := ⟨3, ![2, 32, 768]⟩
abbrev S2x8x4x768 : Shape := ⟨4, ![2, 8, 4, 768]⟩
abbrev S2x768x4096 : Shape := ⟨3, ![2, 768, 4096]⟩
abbrev S2x768 : Shape := ⟨2, ![2, 768]⟩
abbrev S1x4x768x128 : Shape := ⟨4, ![1, 4, 768, 128]⟩
abbrev S1x1x4x768 : Shape := ⟨4, ![1, 1, 4, 768]⟩
abbrev S1x768x512 : Shape := ⟨3, ![1, 768, 512]⟩
abbrev S768x768 : Shape := ⟨2, ![768, 768]⟩
abbrev S4x768 : Shape := ⟨2, ![4, 768]⟩
abbrev S768x4 : Shape := ⟨2, ![768, 4]⟩
abbrev S768x1 : Shape := ⟨2, ![768, 1]⟩
abbrev S768x128 : Shape := ⟨2, ![768, 128]⟩
abbrev S1x1x768x128 : Shape := ⟨4, ![1, 1, 768, 128]⟩
abbrev S1x1x1x768 : Shape := ⟨4, ![1, 1, 1, 768]⟩
abbrev S1x768 : Shape := ⟨2, ![1, 768]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S128x768 : Shape := ⟨2, ![128, 768]⟩
abbrev S1x1x256x128 : Shape := ⟨4, ![1, 1, 256, 128]⟩
abbrev S256x128 : Shape := ⟨2, ![256, 128]⟩
abbrev S256x256 : Shape := ⟨2, ![256, 256]⟩
abbrev S1x256 : Shape := ⟨2, ![1, 256]⟩
abbrev S128x256 : Shape := ⟨2, ![128, 256]⟩
abbrev S1x256x128 : Shape := ⟨3, ![1, 256, 128]⟩
abbrev S1x1x512x128 : Shape := ⟨4, ![1, 1, 512, 128]⟩
abbrev S512x128 : Shape := ⟨2, ![512, 128]⟩
abbrev S512x256 : Shape := ⟨2, ![512, 256]⟩
abbrev S384x128 : Shape := ⟨2, ![384, 128]⟩
abbrev S128x512 : Shape := ⟨2, ![128, 512]⟩
abbrev S768x256 : Shape := ⟨2, ![768, 256]⟩
abbrev S640x128 : Shape := ⟨2, ![640, 128]⟩

abbrev nBuf : Space → Nat
  | .hbm => 19
  | .vmem => 16
  | .smem => 0
  | _ => 0

abbrev bufTy : (tb : Table) → Fin (tcTables nBuf tb) → BufTy
  | .hbm, ⟨0, _⟩ => ⟨S2x768x32x128, .i8⟩
  | .hbm, ⟨1, _⟩ => ⟨S2x768x32, .f32⟩
  | .hbm, ⟨2, _⟩ => ⟨S2x768x32x128, .i8⟩
  | .hbm, ⟨3, _⟩ => ⟨S2x768x32, .f32⟩
  | .hbm, ⟨4, _⟩ => ⟨S2x768x32x128, .fp8e4m3⟩
  | .hbm, ⟨5, _⟩ => ⟨S2x768x32, .f32⟩
  | .hbm, ⟨6, _⟩ => ⟨S2x768x32x128, .fp8e4m3⟩
  | .hbm, ⟨7, _⟩ => ⟨S2x768x32x128, .fp8e4m3⟩
  | .hbm, ⟨8, _⟩ => ⟨S2x32x768x128, .fp8e4m3⟩
  | .hbm, ⟨9, _⟩ => ⟨S2x32x768x128, .fp8e4m3⟩
  | .hbm, ⟨10, _⟩ => ⟨S2x32x768x128, .fp8e4m3⟩
  | .hbm, ⟨11, _⟩ => ⟨S2x32x768, .f32⟩
  | .hbm, ⟨12, _⟩ => ⟨S2x8x4x768, .f32⟩
  | .hbm, ⟨13, _⟩ => ⟨S2x32x768, .f32⟩
  | .hbm, ⟨14, _⟩ => ⟨S2x8x4x768, .f32⟩
  | .hbm, ⟨15, _⟩ => ⟨S2x32x768, .f32⟩
  | .hbm, ⟨16, _⟩ => ⟨S2x8x4x768, .f32⟩
  | .hbm, ⟨17, _⟩ => ⟨S2x768x4096, .bf16⟩
  | .hbm, ⟨18, _⟩ => ⟨S2x768, .f32⟩
  | .local _ .vmem, ⟨0, _⟩ => ⟨S1x4x768x128, .fp8e4m3⟩
  | .local _ .vmem, ⟨1, _⟩ => ⟨S1x4x768x128, .fp8e4m3⟩
  | .local _ .vmem, ⟨2, _⟩ => ⟨S1x4x768x128, .fp8e4m3⟩
  | .local _ .vmem, ⟨3, _⟩ => ⟨S1x4x768x128, .fp8e4m3⟩
  | .local _ .vmem, ⟨4, _⟩ => ⟨S1x4x768x128, .fp8e4m3⟩
  | .local _ .vmem, ⟨5, _⟩ => ⟨S1x4x768x128, .fp8e4m3⟩
  | .local _ .vmem, ⟨6, _⟩ => ⟨S1x1x4x768, .f32⟩
  | .local _ .vmem, ⟨7, _⟩ => ⟨S1x1x4x768, .f32⟩
  | .local _ .vmem, ⟨8, _⟩ => ⟨S1x1x4x768, .f32⟩
  | .local _ .vmem, ⟨9, _⟩ => ⟨S1x1x4x768, .f32⟩
  | .local _ .vmem, ⟨10, _⟩ => ⟨S1x1x4x768, .f32⟩
  | .local _ .vmem, ⟨11, _⟩ => ⟨S1x1x4x768, .f32⟩
  | .local _ .vmem, ⟨12, _⟩ => ⟨S1x768x512, .bf16⟩
  | .local _ .vmem, ⟨13, _⟩ => ⟨S1x768x512, .bf16⟩
  | .local _ .vmem, ⟨14, _⟩ => ⟨S2x768, .f32⟩
  | .local _ .vmem, ⟨15, _⟩ => ⟨S768x768, .f32⟩
  | _, _ => ⟨S2x768x32x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_678 : BitVec 32 := 0#32
  let v1753 : BitVec 1 := Scalar.cmpi .eq arg0 c0_i32_678
  let v1754 : BitVec 32 := Scalar.extui v1753
  let c0_i32_679 : BitVec 32 := 0#32
  let v1755 : BitVec 1 := Scalar.cmpi .ne v1754 c0_i32_679
  v1755

def k0_cond3 (i : grid0.Coords) : BitVec 1 :=
  let arg0 : BitVec 32 := BitVec.ofNat 32 (i 0).val
  let c1_i32 : BitVec 32 := 1#32
  let v1756 : BitVec 1 := Scalar.cmpi .eq arg0 c1_i32
  let v1757 : BitVec 32 := Scalar.extui v1756
  let c0_i32_680 : BitVec 32 := 0#32
  let v1758 : BitVec 1 := Scalar.cmpi .ne v1757 c0_i32_680
  v1758

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x768x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x768x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x768x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== KernelIdeal.lean ====
variable {F : FTy → Type} [FloatOps F] [Named F]
def κ : String → Option EReal := fun
  | "log2e" => some (((Real.log 2)⁻¹ : ℝ) : EReal)
  | "masked" => some ⊤
  | "sm_scale_log2e" => some (((11863283 / 134217728) * (Real.log 2)⁻¹ : ℝ) : EReal)
  | _ => none
-- ==== ReferenceIdeal.lean ====
abbrev S2x768x32x128 : Shape := ⟨4, ![2, 768, 32, 128]⟩
abbrev S2x768x32 : Shape := ⟨3, ![2, 768, 32]⟩
abbrev S2x32x768 : Shape := ⟨3, ![2, 32, 768]⟩
abbrev S2x32x768x1 : Shape := ⟨4, ![2, 32, 768, 1]⟩
abbrev S2x32x1x768 : Shape := ⟨4, ![2, 32, 1, 768]⟩
abbrev S2x32x768x768 : Shape := ⟨4, ![2, 32, 768, 768]⟩
abbrev S_ : Shape := ⟨0, ![]⟩
abbrev S768 : Shape := ⟨1, ![768]⟩
abbrev S768x1 : Shape := ⟨2, ![768, 1]⟩
abbrev S1x768 : Shape := ⟨2, ![1, 768]⟩
abbrev S768x768 : Shape := ⟨2, ![768, 768]⟩
abbrev S2x1x768x768 : Shape := ⟨4, ![2, 1, 768, 768]⟩
abbrev S2x768x768 : Shape := ⟨3, ![2, 768, 768]⟩
abbrev S2x768 : Shape := ⟨2, ![2, 768]⟩
abbrev S2x32x128x768 : Shape := ⟨4, ![2, 32, 128, 768]⟩
abbrev S2x768x4096 : Shape := ⟨3, ![2, 768, 4096]⟩

abbrev nBuf : Space → Nat
  | .hbm => 85
  | .vmem => 6
  | .smem => 0
  | _ => 0

abbrev bufTy : (tb : Table) → Fin (tcTables nBuf tb) → BufTy
  | .hbm, ⟨0, _⟩ => ⟨S2x768x32x128, .i8⟩
  | .hbm, ⟨1, _⟩ => ⟨S2x768x32, .f32⟩
  | .hbm, ⟨2, _⟩ => ⟨S2x768x32x128, .i8⟩
  | .hbm, ⟨3, _⟩ => ⟨S2x768x32, .f32⟩
  | .hbm, ⟨4, _⟩ => ⟨S2x768x32x128, .fp8e4m3⟩
  | .hbm, ⟨5, _⟩ => ⟨S2x768x32, .f32⟩
  | .hbm, ⟨6, _⟩ => ⟨S2x768x32x128, .fp8e4m3⟩
  | .hbm, ⟨7, _⟩ => ⟨S2x768x32x128, .fp8e4m3⟩
  | .hbm, ⟨8, _⟩ => ⟨S2x768x32x128, .f32⟩
  | .hbm, ⟨9, _⟩ => ⟨S2x768x32x128, .f32⟩
  | .hbm, ⟨10, _⟩ => ⟨S2x768x32x128, .bf16⟩
  | .hbm, ⟨11, _⟩ => ⟨S2x32x768, .f32⟩
  | .hbm, ⟨12, _⟩ => ⟨S2x32x768x1, .f32⟩
  | .hbm, ⟨13, _⟩ => ⟨S2x32x768, .f32⟩
  | .hbm, ⟨14, _⟩ => ⟨S2x32x1x768, .f32⟩
  | .hbm, ⟨15, _⟩ => ⟨S2x32x768, .f32⟩
  | .hbm, ⟨16, _⟩ => ⟨S2x32x1x768, .f32⟩
  | .hbm, ⟨17, _⟩ => ⟨S2x32x768x768, .f32⟩
  | .hbm, ⟨18, _⟩ => ⟨S2x32x768x768, .f32⟩
  | .hbm, ⟨19, _⟩ => ⟨S2x32x768x768, .f32⟩
  | .hbm, ⟨20, _⟩ => ⟨S2x32x768x768, .f32⟩
  | .hbm, ⟨21, _⟩ => ⟨S2x32x768x768, .f32⟩
  | .hbm, ⟨22, _⟩ => ⟨S_, .f32⟩
  | .hbm, ⟨23, _⟩ => ⟨S2x32x768x768, .f32⟩
  | .hbm, ⟨24, _⟩ => ⟨S2x32x768x768, .f32⟩
  | .hbm, ⟨25, _⟩ => ⟨S768, .i32⟩
  | .hbm, ⟨26, _⟩ => ⟨S768x1, .i32⟩
  | .hbm, ⟨27, _⟩ => ⟨S768, .i32⟩
  | .hbm, ⟨28, _⟩ => ⟨S1x768, .i32⟩
  | .hbm, ⟨29, _⟩ => ⟨S_, .i32⟩
  | .hbm, ⟨30, _⟩ => ⟨S1x768, .i32⟩
  | .hbm, ⟨31, _⟩ => ⟨S1x768, .i1⟩
  | .hbm, ⟨32, _⟩ => ⟨S768x768, .i32⟩
  | .hbm, ⟨33, _⟩ => ⟨S768x768, .i32⟩
  | .hbm, ⟨34, _⟩ => ⟨S768x768, .i1⟩
  | .hbm, ⟨35, _⟩ => ⟨S768x768, .i1⟩
  | .hbm, ⟨36, _⟩ => ⟨S768x768, .i1⟩
  | .hbm, ⟨37, _⟩ => ⟨S2x1x768x768, .f32⟩
  | .hbm, ⟨38, _⟩ => ⟨S2x768x768, .f32⟩
  | .hbm, ⟨39, _⟩ => ⟨S_, .f32⟩
  | .hbm, ⟨40, _⟩ => ⟨S2x768x768, .f32⟩
  | .hbm, ⟨41, _⟩ => ⟨S2x768x768, .f32⟩
  | .hbm, ⟨42, _⟩ => ⟨S_, .f32⟩
  | .hbm, ⟨43, _⟩ => ⟨S_, .f32⟩
  | .hbm, ⟨44, _⟩ => ⟨S2x768x768, .i1⟩
  | .hbm, ⟨45, _⟩ => ⟨S2x768x768, .f32⟩
  | .hbm, ⟨46, _⟩ => ⟨S2x768x768, .f32⟩
  | .hbm, ⟨47, _⟩ => ⟨S_, .f32⟩
  | .hbm, ⟨48, _⟩ => ⟨S_, .f32⟩
  | .hbm, ⟨49, _⟩ => ⟨S2x768x768, .f32⟩
  | .hbm, ⟨50, _⟩ => ⟨S2x768x768, .f32⟩
  | .hbm, ⟨51, _⟩ => ⟨S_, .f32⟩
  | .hbm, ⟨52, _⟩ => ⟨S2x768, .f32⟩
  | .hbm, ⟨53, _⟩ => ⟨S768x768, .i32⟩
  | .hbm, ⟨54, _⟩ => ⟨S768x768, .i32⟩
  | .hbm, ⟨55, _⟩ => ⟨S768x768, .i1⟩
  | .hbm, ⟨56, _⟩ => ⟨S2x1x768x768, .f32⟩
  | .hbm, ⟨57, _⟩ => ⟨S2x32x768x768, .f32⟩
  | .hbm, ⟨58, _⟩ => ⟨S2x32x768x768, .f32⟩
  | .hbm, ⟨59, _⟩ => ⟨S_, .f32⟩
  | .hbm, ⟨60, _⟩ => ⟨S_, .f32⟩
  | .hbm, ⟨61, _⟩ => ⟨S2x32x768x768, .i1⟩
  | .hbm, ⟨62, _⟩ => ⟨S2x32x768x768, .f32⟩
  | .hbm, ⟨63, _⟩ => ⟨S2x32x768x768, .f32⟩
  | .hbm, ⟨64, _⟩ => ⟨S_, .f32⟩
  | .hbm, ⟨65, _⟩ => ⟨S2x32x768, .f32⟩
  | .hbm, ⟨66, _⟩ => ⟨S_, .f32⟩
  | .hbm, ⟨67, _⟩ => ⟨S2x32x768, .f32⟩
  | .hbm, ⟨68, _⟩ => ⟨S2x32x768, .f32⟩
  | .hbm, ⟨69, _⟩ => ⟨S2x32x768x1, .f32⟩
  | .hbm, ⟨70, _⟩ => ⟨S2x32x768x768, .f32⟩
  | .hbm, ⟨71, _⟩ => ⟨S2x32x768x768, .f32⟩
  | .hbm, ⟨72, _⟩ => ⟨S2x32x768x768, .f32⟩
  | .hbm, ⟨73, _⟩ => ⟨S_, .f32⟩
  | .hbm, ⟨74, _⟩ => ⟨S2x32x768, .f32⟩
  | .hbm, ⟨75, _⟩ => ⟨S2x32x768x1, .f32⟩
  | .hbm, ⟨76, _⟩ => ⟨S2x32x768x768, .f32⟩
  | .hbm, ⟨77, _⟩ => ⟨S2x32x768x768, .f32⟩
  | .hbm, ⟨78, _⟩ => ⟨S2x32x768x768, .f32⟩
  | .hbm, ⟨79, _⟩ => ⟨S2x32x768x768, .f32⟩
  | .hbm, ⟨80, _⟩ => ⟨S2x32x768x768, .bf16⟩
  | .hbm, ⟨81, _⟩ => ⟨S2x32x128x768, .f32⟩
  | .hbm, ⟨82, _⟩ => ⟨S2x768x32x128, .f32⟩
  | .hbm, ⟨83, _⟩ => ⟨S2x768x4096, .f32⟩
  | .hbm, ⟨84, _⟩ => ⟨S2x768x4096, .bf16⟩
  | .local _ .vmem, ⟨0, _⟩ => ⟨S2x768x32x128, .fp8e4m3⟩
  | .local _ .vmem, ⟨1, _⟩ => ⟨S2x768x32x128, .fp8e4m3⟩
  | .local _ .vmem, ⟨2, _⟩ => ⟨S2x768x32x128, .fp8e4m3⟩
  | .local _ .vmem, ⟨3, _⟩ => ⟨S2x768x32x128, .f32⟩
  | .local _ .vmem, ⟨4, _⟩ => ⟨S2x768x32x128, .f32⟩
  | .local _ .vmem, ⟨5, _⟩ => ⟨S2x768x32x128, .bf16⟩
  | _, _ => ⟨S2x768x32x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v31 : Ref sig .tc := ⟨.hbm, 46, rfl⟩
abbrev main_call1_call0_cst : Ref sig .tc := ⟨.hbm, 47, rfl⟩
abbrev main_call1_call0_v0 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x768x32x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x32x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x32x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Runs.lean ====
/- What the runs of the kernel's body share: its branch conditions in closed form over the grid's points, the memrefs the
   pipeline passes it, and the region's invariant with the scratch operand as a memref. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points before point 8 — by arithmetic of the point. -/
theorem hcond0_1 : ∀ t : Fin cfg0.N, cond0_1 (grid0.coords t) ↔ t.val < 8 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := k0_cond3 i = 1#1
/-- It holds at the points from point 8 on — by arithmetic of the point. -/
theorem hcond0_2 : ∀ t : Fin cfg0.N, cond0_2 (grid0.coords t) ↔ 8 ≤ t.val :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ 8 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x4x768x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x768x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x768x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x4x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x4x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x768 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S768x768 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.Tile.lean ====
module

public import proofs.«01_k».proof.Proof.Runs

/-! The penalty the kernel body builds at the first grid point of a batch: 128 by 128 tiles, keys down, queries across,
    for tile row `a` and tile column `a + n`. -/

@[expose] public section

set_option maxRecDepth 16384

noncomputable section

namespace Cert.KernelIdeal.Gen

open Idealize.ShloMosaic Idealize.ShloMosaic.TcCoe

variable {F : FTy → Type} [FloatOps F] [Named F]

theorem tile_rows (a : Fin 6) : S768x128.Slices ![128 * a.val, 0] S128x128 :=
  ⟨rfl, fun i => by have := a.isLt; fin_cases i <;> simp <;> omega⟩

theorem tile_cols (b : Fin 6) : S1x768.Slices ![0, 128 * b.val] S1x128 :=
  ⟨rfl, fun i => by have := b.isLt; fin_cases i <;> simp <;> omega⟩

theorem tile_inb (a b : Fin 6) : ∀ i, (![128 * a.val, 128 * b.val] : Fin 2 → Nat) i + S128x128.size i ≤ S768x768.size i :=
  fun i => by have := a.isLt; have := b.isLt; fin_cases i <;> simp <;> omega

/-- The row number of a tile entry inside the tile. -/
def rowNo : IVec S128x128 32 := iota .tc S128x128 32 [0] iota_S128x128_d0_w32
/-- The column number of a tile entry inside the tile. -/
def colNo : IVec S128x128 32 := iota .tc S128x128 32 [1] iota_S128x128_d1_w32
/-- Ones strictly above the diagonal. -/
def before : FVec F S128x128 .bf16 :=
  truncf .bf16 (select (cmpi .slt rowNo colNo) (broadcast S128x128 (Scalar.ofBits .f32 0x3F800000#32))
    (broadcast S128x128 (Scalar.ofBits .f32 0x00000000#32))) bitsLt_bf16_f32

/-- The head 0 key scales, spread over 128 columns. -/
def keyScale (x4 : Vec F S1x1x4x768 .f32) : FVec F S768x128 .f32 :=
  k0_pay2 (View.ld x4 (Rect.unit ![0, 0, 0, 0] ![1, 1, 4, 768] inb_S1x1x4x768_S1x1x4x768_0_0_0_0))

/-- The head 0 codes of a staged block. -/
def codes0 (x : Vec F S1x4x768x128 .fp8e4m3) : FVec F S768x128 .fp8e4m3 :=
  k0_pay3 (View.ld x (Rect.unit ![0, 0, 0, 0] ![1, 1, 768, 128] inb_S1x4x768x128_S1x1x768x128_0_0_0_0))

/-- The head 0 query scales. -/
def queryScale (x3 : Vec F S1x1x4x768 .f32) : FVec F S1x768 .f32 :=
  k0_pay5 (View.ld x3 (Rect.unit ![0, 0, 0, 0] ![1, 1, 1, 768] inb_S1x1x4x768_S1x1x1x768_0_0_0_0))

/-- The logits of head 0 in tile `(a, b)`. -/
def logitT (x0 x1 : Vec F S1x4x768x128 .fp8e4m3) (x3 x4 : Vec F S1x1x4x768 .f32) (a b : Fin 6) : FVec F S128x128 .f32 :=
  mulf (mulf (mulf
    (matmul dot_S128x128_S128x128_S128x128_1_1_0_0_n_n none
      (extractStridedSlice S128x128 ![128 * a.val, 0] (codes0 x1) (tile_rows a))
      (extractStridedSlice S128x128 ![128 * b.val, 0] (codes0 x0) (tile_rows b)) (constant S128x128 .f32 0x00000000#32))
    (broadcastTo S128x128 (extractStridedSlice S1x128 ![0, 128 * b.val] (queryScale x3) (tile_cols b))
      broadcasts_S1x128_S128x128))
    (extractStridedSlice S128x128 ![128 * a.val, 0] (keyScale x4) (tile_rows a)))
    (broadcast S128x128 (Scalar.ofBits .f32 0x3DB504F3#32))

/-- The key numbers of the tiles of row `a`. -/
def keyNo (a : Fin 6) : IVec S128x128 32 := addi (broadcast S128x128 (BitVec.ofNat 32 (128 * a.val))) rowNo
/-- The query numbers of the tiles of column `b`. -/
def queryNo (b : Fin 6) : IVec S128x128 32 := addi (broadcast S128x128 (BitVec.ofNat 32 (128 * b.val))) colNo

/-- The selection weights in tile `(a, b)`: the logit's positive part where `0 < key < query`. -/
def selT (x0 x1 : Vec F S1x4x768x128 .fp8e4m3) (x3 x4 : Vec F S1x1x4x768 .f32) (a b : Fin 6) : FVec F S128x128 .f32 :=
  select (andi (cmpi .sgt (keyNo a) (broadcast S128x128 0#32)) (cmpi .slt (keyNo a) (queryNo b)))
    (maximumf (logitT x0 x1 x3 x4 a b) (broadcast S128x128 (Scalar.ofBits .f32 0x00000000#32)))
    (broadcast S128x128 (Scalar.ofBits .f32 0x00000000#32))

/-- A tile's row sums added to what the tiles to its left summed to. -/
def carryStep (c sel : FVec F S128x128 .f32) : FVec F S128x128 .f32 :=
  addf c (broadcastTo S128x128 (shapeCast S128x1 (multiReduction .add [1] S128 sel 0x00000000#32 reduces_S128x128_S128
    (.inl rfl) rfl) shapeCasts_S128_S128x1) broadcasts_S128x1_S128x128)

/-- The row sums of the tiles of row `a` in the columns `a, …, a + n - 1`. -/
def carryT (x0 x1 : Vec F S1x4x768x128 .fp8e4m3) (x3 x4 : Vec F S1x1x4x768 .f32) (a : Fin 6) : ℕ → FVec F S128x128 .f32
  | 0 => broadcast S128x128 (Scalar.ofBits .f32 0x00000000#32)
  | n + 1 => carryStep (carryT x0 x1 x3 x4 a n) (selT x0 x1 x3 x4 a (Fin.ofNat 6 (a.val + n)))

/-- Three bfloat16 parts of the selection weights, each multiplied with the ones above the diagonal and added up: the
    sums over the earlier queries of the tile. -/
def prefixT (sel : FVec F S128x128 .f32) : FVec F S128x128 .f32 :=
  have hi : FVec F S128x128 .bf16 := truncf .bf16 sel bitsLt_bf16_f32
  have r1 : FVec F S128x128 .f32 := subf sel (extf .f32 hi bitsLt_bf16_f32)
  have mid : FVec F S128x128 .bf16 := truncf .bf16 r1 bitsLt_bf16_f32
  have r2 : FVec F S128x128 .f32 := subf r1 (extf .f32 mid bitsLt_bf16_f32)
  have lo : FVec F S128x128 .bf16 := truncf .bf16 r2 bitsLt_bf16_f32
  addf (addf (addf (broadcast S128x128 (Scalar.ofBits .f32 0x00000000#32))
    (matmul dot_S128x128_S128x128_S128x128_1_0_0_1_n_n none hi before (constant S128x128 .f32 0x00000000#32)))
    (matmul dot_S128x128_S128x128_S128x128_1_0_0_1_n_n none mid before (constant S128x128 .f32 0x00000000#32)))
    (matmul dot_S128x128_S128x128_S128x128_1_0_0_1_n_n none lo before (constant S128x128 .f32 0x00000000#32))

/-- The penalty tile the kernel stores, from the sums of the tiles to its left and its own selection weights. -/
def penStep (a b : Fin 6) (c sel : FVec F S128x128 .f32) : FVec F S128x128 .f32 :=
  shapeCast S128x128 (select (cmpi .sle (keyNo a) (queryNo b))
    (mulf (addf c (prefixT sel)) (broadcast S128x128 (Named.named κ "log2e" 0x3FB8AA3B#32)))
    (broadcast S128x128 (Named.named κ "masked" 0x7F61B1E6#32))) shapeCasts_S128x128_S128x128

/-- The penalty tile `(a, a + n)`. -/
def penT (x0 x1 : Vec F S1x4x768x128 .fp8e4m3) (x3 x4 : Vec F S1x1x4x768 .f32) (a : Fin 6) (n : ℕ) :
    FVec F S128x128 .f32 :=
  penStep a (Fin.ofNat 6 (a.val + n)) (carryT x0 x1 x3 x4 a n) (selT x0 x1 x3 x4 a (Fin.ofNat 6 (a.val + n)))

/-- The store of the penalty tile `(a, a + n)`. -/
def tilePiece (x0 x1 : Vec F S1x4x768x128 .fp8e4m3) (x3 x4 : Vec F S1x1x4x768 .f32) (a : Fin 6) (n : ℕ) :
    View.Piece (Elt F) S768x768 .f32 :=
  ⟨Rect.unit ![128 * a.val, 128 * (Fin.ofNat 6 (a.val + n)).val] ![128, 128] (tile_inb _ _), penT x0 x1 x3 x4 a n⟩

/-- The stores of the penalty table, last store first. -/
def tiles (x0 x1 : Vec F S1x4x768x128 .fp8e4m3) (x3 x4 : Vec F S1x1x4x768 .f32) :
    List (View.Piece (Elt F) S768x768 .f32) :=
  [tilePiece x0 x1 x3 x4 5 0, tilePiece x0 x1 x3 x4 4 1, tilePiece x0 x1 x3 x4 4 0,
   tilePiece x0 x1 x3 x4 3 2, tilePiece x0 x1 x3 x4 3 1, tilePiece x0 x1 x3 x4 3 0,
   tilePiece x0 x1 x3 x4 2 3, tilePiece x0 x1 x3 x4 2 2, tilePiece x0 x1 x3 x4 2 1, tilePiece x0 x1 x3 x4 2 0,
   tilePiece x0 x1 x3 x4 1 4, tilePiece x0 x1 x3 x4 1 3, tilePiece x0 x1 x3 x4 1 2, tilePiece x0 x1 x3 x4 1 1,
   tilePiece x0 x1 x3 x4 1 0,
   tilePiece x0 x1 x3 x4 0 5, tilePiece x0 x1 x3 x4 0 4, tilePiece x0 x1 x3 x4 0 3, tilePiece x0 x1 x3 x4 0 2,
   tilePiece x0 x1 x3 x4 0 1, tilePiece x0 x1 x3 x4 0 0]

/-- The whole row sums of the tiles of row `a`, as a row. -/
def rowSum (x0 x1 : Vec F S1x4x768x128 .fp8e4m3) (x3 x4 : Vec F S1x1x4x768 .f32) (a : Fin 6) (n : ℕ) :
    FVec F S1x128 .f32 :=
  extractStridedSlice S1x128 ![0, 0] (transpose S128x128 [1, 0] (carryT x0 x1 x3 x4 a n) transposes_S128x128_p1_0_S128x128)
    slices_S128x128_o0_0_S1x128

/-- The selection sums over all queries, per key: what the kernel stores as a row of its second result. -/
def selRow (x0 x1 : Vec F S1x4x768x128 .fp8e4m3) (x3 x4 : Vec F S1x1x4x768 .f32) : FVec F S1x768 .f32 :=
  concatenate S1x768 1 [⟨S1x128, rowSum x0 x1 x3 x4 0 6⟩, ⟨S1x128, rowSum x0 x1 x3 x4 1 5⟩,
    ⟨S1x128, rowSum x0 x1 x3 x4 2 4⟩, ⟨S1x128, rowSum x0 x1 x3 x4 3 3⟩, ⟨S1x128, rowSum x0 x1 x3 x4 4 2⟩,
    ⟨S1x128, rowSum x0 x1 x3 x4 5 1⟩] concatenates_S1x128_S1x128_S1x128_S1x128_S1x128_S1x128_S1x768_d1

end Cert.KernelIdeal.Gen

end
-- ==== Proof.TileRead.lean ====
module

public import proofs.«01_k».proof.Proof.Tile
public import Idealize.ShloMosaic.Lib.Pointwise
public import Idealize.ShloMosaic.Lib.WordCmp

/-! The penalty tiles read entry by entry over the extended reals. -/

@[expose] public section

set_option maxRecDepth 16384

noncomputable section

namespace Cert.KernelIdeal.Gen

open Idealize.ShloMosaic Idealize.ShloMosaic.TcCoe

variable (x0 x1 : Vec Ideal S1x4x768x128 .fp8e4m3) (x3 x4 : Vec Ideal S1x1x4x768 .f32)

/-- Entry `r` of block `a` of an axis of 768. -/
def at6 (a : Fin 6) (r : Fin 128) : Fin 768 := ⟨128 * a.val + r.val, by omega⟩

/-- The logit of head 0 for key `k` and query `q`. -/
def logit0 (k q : Fin 768) : EReal :=
  (∑ d : Fin 128, x1 (ix4 0 0 k d) * x0 (ix4 0 0 q d)) * x3 (ix4 0 0 0 q) * x4 (ix4 0 0 0 k) *
    Ideal.ofBits .f32 0x3DB504F3#32

theorem logitT_apply (a b : Fin 6) (r c : Fin 128) :
    logitT x0 x1 x3 x4 a b (ix2 r c) = logit0 x0 x1 x3 x4 (at6 a r) (at6 b c) := by
  unfold logitT codes0 keyScale queryScale
  unfold_payloads
  pointwise [dot_S128x128_S128x128_S128x128_1_1_0_0_n_n]
  rfl

/-- A select on a decided bit. -/
theorem select_ofBool {α : Type} (p : Prop) [Decidable p] (x y : α) :
    Scalar.select (BitVec.ofBool (decide p)) x y = if p then x else y := by
  unfold Scalar.select
  by_cases h : p <;> simp [h]

theorem selT_apply (a b : Fin 6) (r c : Fin 128) :
    selT x0 x1 x3 x4 a b (ix2 r c) = if 0 < (at6 a r).val ∧ (at6 a r).val < (at6 b c).val then
      max (logit0 x0 x1 x3 x4 (at6 a r) (at6 b c)) 0 else 0 := by
  have ha := a.isLt; have hb := b.isLt; have hr := r.isLt; have hc := c.isLt
  unfold selT keyNo queryNo rowNo colNo
  pointwise [logitT_apply]
  unfold IntOp.addi
  rw [← BitVec.ofNat_add, ← BitVec.ofNat_add, WordCmp.cmpi_sgt_ofNat (b := 0) (by omega) (by omega),
    WordCmp.cmpi_slt_ofNat (by omega) (by omega), WordCmp.andi_ofBool, ← Bool.decide_and, select_ofBool]
  rfl

theorem carryStep_apply (u sel : FVec Ideal S128x128 .f32) (r c : Fin 128) :
    carryStep u sel (ix2 r c) = u (ix2 r c) + ∑ j : Fin 128, sel (ix2 r j) := by
  unfold carryStep
  pointwise

/-- The sums over the earlier queries of the tile, of finite weights. -/
theorem prefixT_apply (sel : FVec Ideal S128x128 .f32) (z : Fin 128 → Fin 128 → ℝ) (hz : ∀ r c, sel (ix2 r c) = z r c)
    (r c : Fin 128) :
    prefixT sel (ix2 r c) = ∑ j : Fin 128, if j.val < c.val then (z r j : EReal) else 0 := by
  have hz0 : ∀ x : Fin 128, sel (ix2 r x) - sel (ix2 r x) = 0 := fun x => by
    rw [hz, ← EReal.coe_sub, sub_self, EReal.coe_zero]
  unfold prefixT before rowNo colNo
  pointwise [dot_S128x128_S128x128_S128x128_1_0_0_1_n_n]
  have hs : ∀ (x : Fin 128) (y : EReal), Scalar.select (IntOp.cmpi .slt (BitVec.ofNat 32 x.val) (BitVec.ofNat 32 c.val)) y 0 =
      if x.val < c.val then y else 0 := fun x y => by
    have := x.isLt; have := c.isLt
    rw [WordCmp.cmpi_slt_ofNat (by omega) (by omega), select_ofBool]
  simp only [hs, hz0, sub_zero, ite_self, Finset.sum_const_zero, add_zero]
  simp only [hz]

theorem penStep_apply (a b : Fin 6) (u sel : FVec Ideal S128x128 .f32) (r c : Fin 128) :
    penStep a b u sel (ix2 r c) = if (at6 a r).val ≤ (at6 b c).val then
      (u (ix2 r c) + prefixT sel (ix2 r c)) * (((Real.log 2)⁻¹ : ℝ) : EReal) else ⊤ := by
  have ha := a.isLt; have hb := b.isLt; have hr := r.isLt; have hc := c.isLt
  unfold penStep keyNo queryNo rowNo colNo
  pointwise
  unfold IntOp.addi
  rw [← BitVec.ofNat_add, ← BitVec.ofNat_add, WordCmp.cmpi_sle_ofNat (by omega) (by omega), select_ofBool,
    show Named.named (F := Ideal) (φ := .f32) κ "log2e" 0x3FB8AA3B#32 = _ from
      IdealRules.named_const.ideal_named_scalar _ _ _ _ rfl,
    show Named.named (F := Ideal) (φ := .f32) κ "masked" 0x7F61B1E6#32 = _ from
      IdealRules.named_const.ideal_named_scalar _ _ _ _ rfl]
  rfl

theorem rowSum_apply (a : Fin 6) (n : ℕ) (c : Fin 128) :
    rowSum x0 x1 x3 x4 a n (ix2 0 c) = carryT x0 x1 x3 x4 a n (ix2 c 0) := by
  unfold rowSum
  pointwise

theorem selRow_at (a : Fin 6) (c : Fin 128) :
    selRow x0 x1 x3 x4 (ix2 0 (at6 a c)) = carryT x0 x1 x3 x4 a (6 - a.val) (ix2 c 0) := by
  have hc := c.isLt
  unfold selRow
  pointwise
  match a with
  | ⟨0, _⟩ =>
    exact (dif_pos (show 128 * 0 + c.val < 128 by omega)).trans <|
      (rowSum_apply x0 x1 x3 x4 0 6 _).trans
        (congrArg (fun z => carryT x0 x1 x3 x4 0 6 (ix2 z 0)) (Fin.ext (show 128 * 0 + c.val = c.val by omega)))
  | ⟨1, _⟩ =>
    exact (dif_neg (show ¬ 128 * 1 + c.val < 128 by omega)).trans <| (dif_pos (show 128 * 1 + c.val - 128 < 128 by omega)).trans <|
      (rowSum_apply x0 x1 x3 x4 1 5 _).trans
        (congrArg (fun z => carryT x0 x1 x3 x4 1 5 (ix2 z 0)) (Fin.ext (show 128 * 1 + c.val - 128 = c.val by omega)))
  | ⟨2, _⟩ =>
    exact (dif_neg (show ¬ 128 * 2 + c.val < 128 by omega)).trans <| (dif_neg (show ¬ 128 * 2 + c.val - 128 < 128 by omega)).trans <| (dif_pos (show 128 * 2 + c.val - 128 - 128 < 128 by omega)).trans <|
      (rowSum_apply x0 x1 x3 x4 2 4 _).trans
        (congrArg (fun z => carryT x0 x1 x3 x4 2 4 (ix2 z 0)) (Fin.ext (show 128 * 2 + c.val - 128 - 128 = c.val by omega)))
  | ⟨3, _⟩ =>
    exact (dif_neg (show ¬ 128 * 3 + c.val < 128 by omega)).trans <| (dif_neg (show ¬ 128 * 3 + c.val - 128 < 128 by omega)).trans <| (dif_neg (show ¬ 128 * 3 + c.val - 128 - 128 < 128 by omega)).trans <| (dif_pos (show 128 * 3 + c.val - 128 - 128 - 128 < 128 by omega)).trans <|
      (rowSum_apply x0 x1 x3 x4 3 3 _).trans
        (congrArg (fun z => carryT x0 x1 x3 x4 3 3 (ix2 z 0)) (Fin.ext (show 128 * 3 + c.val - 128 - 128 - 128 = c.val by omega)))
  | ⟨4, _⟩ =>
    exact (dif_neg (show ¬ 128 * 4 + c.val < 128 by omega)).trans <| (dif_neg (show ¬ 128 * 4 + c.val - 128 < 128 by omega)).trans <| (dif_neg (show ¬ 128 * 4 + c.val - 128 - 128 < 128 by omega)).trans <| (dif_neg (show ¬ 128 * 4 + c.val - 128 - 128 - 128 < 128 by omega)).trans <| (dif_pos (show 128 * 4 + c.val - 128 - 128 - 128 - 128 < 128 by omega)).trans <|
      (rowSum_apply x0 x1 x3 x4 4 2 _).trans
        (congrArg (fun z => carryT x0 x1 x3 x4 4 2 (ix2 z 0)) (Fin.ext (show 128 * 4 + c.val - 128 - 128 - 128 - 128 = c.val by omega)))
  | ⟨5, _⟩ =>
    exact (dif_neg (show ¬ 128 * 5 + c.val < 128 by omega)).trans <| (dif_neg (show ¬ 128 * 5 + c.val - 128 < 128 by omega)).trans <| (dif_neg (show ¬ 128 * 5 + c.val - 128 - 128 < 128 by omega)).trans <| (dif_neg (show ¬ 128 * 5 + c.val - 128 - 128 - 128 < 128 by omega)).trans <| (dif_neg (show ¬ 128 * 5 + c.val - 128 - 128 - 128 - 128 < 128 by omega)).trans <| (rowSum_apply x0 x1 x3 x4 5 1 _).trans
        (congrArg (fun z => carryT x0 x1 x3 x4 5 1 (ix2 z 0)) (Fin.ext (show 128 * 5 + c.val - 128 - 128 - 128 - 128 - 128 = c.val by omega)))

/-- A finite sum of reals, read as extended reals. -/
theorem coe_sum_real {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

section
variable {x0 x1 x3 x4} (L : Fin 768 → Fin 768 → ℝ) (hL : ∀ k q, logit0 x0 x1 x3 x4 k q = L k q)

/-- The selection weight of key `k` and query number `j`. -/
def selR (k : Fin 768) (j : ℕ) : ℝ :=
  if h : j < 768 then if 0 < k.val ∧ k.val < j then max (L k ⟨j, h⟩) 0 else 0 else 0

include hL in
theorem selT_real (a b : Fin 6) (r c : Fin 128) :
    selT x0 x1 x3 x4 a b (ix2 r c) = (selR L (at6 a r) (128 * b.val + c.val) : ℝ) := by
  rw [selT_apply, hL]
  unfold selR
  rw [dif_pos (by omega)]
  show (if 0 < (at6 a r).val ∧ (at6 a r).val < 128 * b.val + c.val then max ((L (at6 a r) (at6 b c) : ℝ) : EReal) 0 else 0) = _
  split_ifs
  · rw [EReal.coe_strictMono.monotone.map_max]; rfl
  · rfl

theorem ofNat6 (a : Fin 6) (n : ℕ) (h : a.val + n < 6) : (Fin.ofNat 6 (a.val + n)).val = a.val + n := Nat.mod_eq_of_lt h

include hL in
theorem carryT_real (a : Fin 6) (r c : Fin 128) : ∀ n, a.val + n ≤ 6 →
    carryT x0 x1 x3 x4 a n (ix2 r c) = ((∑ j ∈ Finset.range (128 * (a.val + n)), selR L (at6 a r) j : ℝ) : EReal)
  | 0, _ => by
    rw [Finset.sum_eq_zero]
    · show Ideal.ofBits .f32 0x00000000#32 = _
      exact Ideal.ofBits_zero ..
    · intro j hj
      have hj := Finset.mem_range.mp hj
      unfold selR
      split_ifs with h1 h2
      · exfalso
        have : 128 * a.val + r.val < j := h2.2
        omega
      · rfl
      · rfl
  | n + 1, h => by
    show carryStep (carryT x0 x1 x3 x4 a n) _ (ix2 r c) = _
    rw [carryStep_apply, carryT_real a r c n (by omega),
      show 128 * (a.val + (n + 1)) = 128 * (a.val + n) + 128 by omega, Finset.sum_range_add, EReal.coe_add]
    congr 1
    rw [Finset.sum_range, coe_sum_real]
    refine Finset.sum_congr rfl fun j _ => ?_
    rw [selT_real L hL, ofNat6 a n (by omega)]

include hL in
/-- The penalty tile's entries: the selection sums over the earlier queries in base two, `⊤` above the diagonal. -/
theorem penT_real (a : Fin 6) (n : ℕ) (h : a.val + n < 6) (r c : Fin 128) :
    penT x0 x1 x3 x4 a n (ix2 r c) = if (at6 a r).val ≤ 128 * (a.val + n) + c.val then
      ((((∑ j ∈ Finset.range (128 * (a.val + n) + c.val), selR L (at6 a r) j) * (Real.log 2)⁻¹ : ℝ)) : EReal) else ⊤ := by
  unfold penT
  rw [penStep_apply, prefixT_apply _ _ (fun r c => selT_real L hL a (Fin.ofNat 6 (a.val + n)) r c),
    carryT_real L hL a r c n (by omega)]
  show (if (at6 a r).val ≤ 128 * (Fin.ofNat 6 (a.val + n)).val + c.val then _ else _) = _
  rw [ofNat6 a n h]
  have e : (∑ j : Fin 128, if j.val < c.val then ((selR L (at6 a r) (128 * (a.val + n) + j.val) : ℝ) : EReal) else 0) =
      ((∑ j ∈ Finset.range c.val, selR L (at6 a r) (128 * (a.val + n) + j) : ℝ) : EReal) := by
    rw [coe_sum_real, ← Finset.sum_range (fun j => if j < c.val then
      ((selR L (at6 a r) (128 * (a.val + n) + j) : ℝ) : EReal) else 0), ← Finset.sum_filter]
    congr 1
    ext j
    have := c.isLt
    simp only [Finset.mem_filter, Finset.mem_range]
    omega
  rw [e, Finset.sum_range_add, EReal.coe_mul, EReal.coe_add]

include hL in
/-- The row of selection sums: per key the sum over all queries. -/
theorem selRow_real (a : Fin 6) (c : Fin 128) :
    selRow x0 x1 x3 x4 (ix2 0 (at6 a c)) = ((∑ j ∈ Finset.range 768, selR L (at6 a c) j : ℝ) : EReal) := by
  have ha := a.isLt
  rw [selRow_at, carryT_real L hL a c 0 _ (by omega), show 128 * (a.val + (6 - a.val)) = 768 by omega]

end

end Cert.KernelIdeal.Gen

end
-- ==== Proof.HeadMath.lean ====
module

public import proofs.«01_k».proof.Proof.TileRead

/-! Causal softmax attention over extended reals: base two against base `e`, a masked tail against none, division of the
    sum against division of the weights. -/

@[expose] public section

noncomputable section

namespace Cert.KernelIdeal.Gen

open Idealize.ShloMosaic

/-- The softmax weight of key `k` for query `q`: keys after the query weigh nothing. -/
def soft (x : Fin 768 → ℝ) (q k : Fin 768) : ℝ :=
  if k.val ≤ q.val then Real.exp (x k) / ∑ j : Fin 768, if j.val ≤ q.val then Real.exp (x j) else 0 else 0

/-- Causal softmax attention of one query in one lane. -/
def attn (a : Fin 768 → EReal) (x : Fin 768 → ℝ) (q : Fin 768) : EReal := ∑ k : Fin 768, a k * (soft x q k : EReal)

/-- The sum of the exponentials is positive. -/
theorem expSum_pos (x : Fin 768 → ℝ) (q : Fin 768) :
    0 < ∑ j : Fin 768, if j.val ≤ q.val then Real.exp (x j) else 0 := by
  refine Finset.sum_pos' (fun j _ => ?_) ⟨q, Finset.mem_univ q, ?_⟩
  · split_ifs
    · exact (Real.exp_pos _).le
    · exact le_rfl
  · rw [if_pos le_rfl]
    exact Real.exp_pos _

/-- A maximum over values that are not `⊤`, one of them finite, is finite. -/
theorem foldMax_real {ι : Type} [Fintype ι] (f : ι → EReal) (hf : ∀ i, f i ≠ ⊤) (i0 : ι) (h0 : f i0 ≠ ⊥) :
    ∃ M : ℝ, Finset.univ.fold max ⊥ f = (M : EReal) := by
  have ht : Finset.univ.fold max ⊥ f ≠ ⊤ := by
    refine ne_of_lt ((Finset.fold_max_lt _).mpr ⟨bot_lt_top, fun i _ => lt_top_iff_ne_top.mpr (hf i)⟩)
  have hb : Finset.univ.fold max ⊥ f ≠ ⊥ := by
    refine ne_of_gt ((Finset.lt_fold_max _).mpr (.inr ⟨i0, Finset.mem_univ i0, bot_lt_iff_ne_bot.mpr h0⟩))
  exact ⟨_, (EReal.coe_toReal ht hb).symm⟩

/-- A sum over the first `n` keys is a sum over all keys when the rest contributes nothing. -/
theorem sum_first {n : ℕ} (hn : n ≤ 768) (g : Fin 768 → EReal) (hg : ∀ k : Fin 768, n ≤ k.val → g k = 0) :
    ∑ k : Fin n, g (k.castLE hn) = ∑ k : Fin 768, g k := by
  refine Finset.sum_of_injOn (fun k : Fin n => k.castLE hn) ?_ ?_ ?_ ?_
  · intro a _ b _ h
    exact Fin.ext (show (a.castLE hn).val = (b.castLE hn).val from congrArg Fin.val h)
  · intro a _
    exact Finset.mem_coe.mpr (Finset.mem_univ _)
  · intro k _ hk
    refine hg k (not_lt.mp fun h => hk ⟨⟨k.val, h⟩, Finset.mem_coe.mpr (Finset.mem_univ _), rfl⟩)
  · intro a _
    rfl

/-- A finite factor comes out of a sum. -/
theorem sum_mul_coe {ι : Type} (t : Finset ι) (f : ι → EReal) {c : ℝ} (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih,
      EReal.right_distrib_of_nonneg_of_ne_top (EReal.coe_nonneg.mpr hc) (EReal.coe_ne_top c)]

/-- Weights proportional to the exponentials give the attention once divided by their sum. -/
theorem attn_of_weights (a : Fin 768 → EReal) (x : Fin 768 → ℝ) (q : Fin 768) (w : Fin 768 → EReal) {c : ℝ} (hc : 0 < c)
    (hw : ∀ k, w k = ((if k.val ≤ q.val then Real.exp (x k) else 0) * c : ℝ)) :
    (∑ k, a k * w k) * Ideal.div 1 (∑ k, w k) = attn a x q ∧
      ∀ k, Ideal.div (w k) (∑ j, w j) = (soft x q k : EReal) := by
  have hS := expSum_pos x q
  have hsum : ∑ k, w k = (((∑ j : Fin 768, if j.val ≤ q.val then Real.exp (x j) else 0) * c : ℝ) : EReal) := by
    rw [Finset.sum_mul, coe_sum_real]
    exact Finset.sum_congr rfl fun k _ => hw k
  have hne : (∑ j : Fin 768, if j.val ≤ q.val then Real.exp (x j) else 0) * c ≠ 0 := (mul_pos hS hc).ne'
  have hdiv : ∀ k, Ideal.div (w k) (∑ j, w j) = (soft x q k : EReal) := fun k => by
    rw [hsum, Ideal.div_coe hne, hw, ← EReal.coe_mul]
    congr 1
    unfold soft
    split_ifs
    · field_simp
    · simp
  refine ⟨?_, hdiv⟩
  rw [hsum, Ideal.div_coe hne, one_mul, sum_mul_coe _ _ (by positivity)]
  refine Finset.sum_congr rfl fun k _ => ?_
  rw [mul_assoc, ← hdiv k, hsum, Ideal.div_coe hne]

/-- The kernel's form: base two, the first `n` keys, the weighted sum divided by the sum of the weights. -/
theorem attn_base_two (a : Fin 768 → EReal) (x : Fin 768 → ℝ) (z : Fin 768 → EReal) (q : Fin 768) {n : ℕ} (hn : n ≤ 768)
    (hq : q.val < n)
    (hz : ∀ k : Fin 768, k.val < n → z k = if k.val ≤ q.val then ((x k * (Real.log 2)⁻¹ : ℝ) : EReal) else ⊥) :
    (∑ k : Fin n, a (k.castLE hn) * Ideal.exp2 (z (k.castLE hn) -
        Finset.univ.fold max ⊥ fun j : Fin n => z (j.castLE hn))) *
      Ideal.div 1 (∑ k : Fin n, Ideal.exp2 (z (k.castLE hn) - Finset.univ.fold max ⊥ fun j : Fin n => z (j.castLE hn))) =
    attn a x q := by
  obtain ⟨M, hM⟩ := foldMax_real (fun j : Fin n => z (j.castLE hn))
    (fun j => by
      rw [hz _ j.isLt]; split_ifs; exacts [EReal.coe_ne_top _, bot_ne_top]) ⟨q.val, hq⟩ (by
      rw [show (⟨q.val, hq⟩ : Fin n).castLE hn = q from rfl, hz q hq, if_pos le_rfl]; exact EReal.coe_ne_bot _)
  rw [hM]
  have hl : Real.log 2 ≠ 0 := (Real.log_pos (by norm_num)).ne'
  have hw : ∀ k : Fin 768, k.val < n → Ideal.exp2 (z k - (M : EReal)) =
      (((if k.val ≤ q.val then Real.exp (x k) else 0) * Real.exp (-(M * Real.log 2)) : ℝ) : EReal) := fun k hk => by
    rw [hz k hk]
    split_ifs with h
    · rw [← EReal.coe_sub, Ideal.exp2_coe]
      congr 1
      show (2 : ℝ) ^ (x k * (Real.log 2)⁻¹ - M) = _
      rw [Real.rpow_def_of_pos (by norm_num), ← Real.exp_add]
      congr 1
      field_simp
      ring
    · rw [EReal.bot_sub, Ideal.exp2_bot, zero_mul, EReal.coe_zero]
  have hb : ∀ k : Fin n, Ideal.exp2 (z (k.castLE hn) - (M : EReal)) =
      (((if (k.castLE hn).val ≤ q.val then Real.exp (x (k.castLE hn)) else 0) * Real.exp (-(M * Real.log 2)) : ℝ) : EReal) :=
    fun k => hw _ k.isLt
  have hzero : ∀ k : Fin 768, n ≤ k.val →
      (((if k.val ≤ q.val then Real.exp (x k) else 0) * Real.exp (-(M * Real.log 2)) : ℝ) : EReal) = 0 := fun k hk => by
    rw [if_neg (by omega), zero_mul, EReal.coe_zero]
  simp only [hb]
  rw [sum_first hn (fun k => (((if k.val ≤ q.val then Real.exp (x k) else 0) * Real.exp (-(M * Real.log 2)) : ℝ) : EReal)) hzero,
    sum_first hn (fun k => a k * (((if k.val ≤ q.val then Real.exp (x k) else 0) * Real.exp (-(M * Real.log 2)) : ℝ) : EReal))
      (fun k hk => by rw [hzero k hk, mul_zero])]
  exact (attn_of_weights a x q _ (Real.exp_pos _) fun k => rfl).1

/-- The plain form: base `e`, all keys, each weight divided by the sum of the weights. -/
theorem soft_base_e (x : Fin 768 → ℝ) (z : Fin 768 → EReal) (q : Fin 768)
    (hz : ∀ k : Fin 768, z k = if k.val ≤ q.val then ((x k : ℝ) : EReal) else ⊥) (k : Fin 768) :
    Ideal.div (Ideal.exp (z k - Finset.univ.fold max ⊥ z)) (∑ j, Ideal.exp (z j - Finset.univ.fold max ⊥ z)) =
      (soft x q k : EReal) := by
  obtain ⟨M, hM⟩ := foldMax_real z (fun j => by rw [hz]; split_ifs <;> simp) q (by rw [hz, if_pos le_rfl]; simp)
  rw [hM]
  refine (attn_of_weights (fun _ => 0) x q (fun k => Ideal.exp (z k - (M : EReal))) (Real.exp_pos (-M)) fun k => ?_).2 k
  show Ideal.exp (z k - (M : EReal)) = _
  rw [hz]
  split_ifs
  · rw [← EReal.coe_sub, Ideal.exp_coe, sub_eq_add_neg, Real.exp_add]
  · rw [EReal.bot_sub, Ideal.exp_bot, zero_mul, EReal.coe_zero]

end Cert.KernelIdeal.Gen

end
-- ==== Proof.Spec.lean ====
module

public import proofs.«01_k».proof.Proof.TileRead
public import proofs.«01_k».proof.Proof.HeadMath

/-! What both programs compute, in the reals: the logits, the selection weights of head 0 and their running sums, and the
causal attention with the running sums subtracted. -/

@[expose] public section

noncomputable section

namespace Cert.Spec

open Idealize.ShloMosaic Cert.KernelIdeal.Gen

/-- The arguments read as reals: the two code arrays decoded, and their scales. -/
structure Args where
  Q : Fin 2 → Fin 768 → Fin 32 → Fin 128 → ℝ
  K : Fin 2 → Fin 768 → Fin 32 → Fin 128 → ℝ
  qs : Fin 2 → Fin 768 → Fin 32 → ℝ
  ks : Fin 2 → Fin 768 → Fin 32 → ℝ

/-- `A` is what the four arrays hold. -/
structure Reads (a0 : Vec Ideal ⟨4, ![2, 768, 32, 128]⟩ .i8) (a1 : Vec Ideal ⟨3, ![2, 768, 32]⟩ .f32)
    (a2 : Vec Ideal ⟨4, ![2, 768, 32, 128]⟩ .i8) (a3 : Vec Ideal ⟨3, ![2, 768, 32]⟩ .f32) (A : Args) : Prop where
  q : ∀ b p h d, Ideal.ofBits .fp8e4m3 (a0 (ix4 b p h d)) = A.Q b p h d
  qs : ∀ b p h, a1 (ix3 b p h) = A.qs b p h
  k : ∀ b p h d, Ideal.ofBits .fp8e4m3 (a2 (ix4 b p h d)) = A.K b p h d
  ks : ∀ b p h, a3 (ix3 b p h) = A.ks b p h

/-- The scaled values of a head's column, one per key. -/
def vcol (a4 : Vec Ideal ⟨4, ![2, 768, 32, 128]⟩ .fp8e4m3) (a5 : Vec Ideal ⟨3, ![2, 768, 32]⟩ .f32)
    (b : Fin 2) (h : Fin 32) (d : Fin 128) (k : Fin 768) : EReal := a4 (ix4 b k h d) * a5 (ix3 b k h)

/-- The scale of the logits. -/
def smScale : ℝ := 11863283 / 134217728

theorem ofBits_smScale : Ideal.ofBits .f32 0x3DB504F3#32 = (smScale : EReal) := by
  unfold smScale
  simp [Ideal.ofBits, Ideal.ieee, -EReal.coe_mul]
  norm_num

theorem ofBits_negInf : Ideal.ofBits .f32 0xFF800000#32 = ⊥ := by
  simp [Ideal.ofBits, Ideal.ieee]

namespace Args

variable (A : Args)

/-- The logit of query `q` and key `k` in head `h` of batch `b`. -/
def logit (b : Fin 2) (h : Fin 32) (q k : Fin 768) : ℝ :=
  (∑ d : Fin 128, A.Q b q h d * A.K b k h d) * A.qs b q h * A.ks b k h * smScale

/-- The logits of head 0, key first. -/
def logit0 (b : Fin 2) (k q : Fin 768) : ℝ := A.logit b 0 q k

/-- The penalty of key `k` for query `q`: what the earlier queries select of the key. -/
def pen (b : Fin 2) (k q : Fin 768) : ℝ := ∑ j ∈ Finset.range q.val, selR (A.logit0 b) k j

/-- The first result: causal attention over the penalized logits. -/
def out (vc : Fin 768 → EReal) (b : Fin 2) (h : Fin 32) (q : Fin 768) : EReal :=
  attn vc (fun k => A.logit b h q k - A.pen b k q) q

/-- The second result: all that is selected of a key. -/
def sel (b : Fin 2) (k : Fin 768) : ℝ := ∑ j ∈ Finset.range 768, selR (A.logit0 b) k j

end Args

/-- The first result as an array. -/
def outArr (a4 : Vec Ideal ⟨4, ![2, 768, 32, 128]⟩ .fp8e4m3) (a5 : Vec Ideal ⟨3, ![2, 768, 32]⟩ .f32) (A : Args) :
    Vec Ideal ⟨3, ![2, 768, 4096]⟩ .bf16 := fun i =>
  A.out (vcol a4 a5 (i 0) ⟨(i 2).val / 128, Nat.div_lt_of_lt_mul (i 2).isLt⟩ ⟨(i 2).val % 128, Nat.mod_lt _ (by decide)⟩)
    (i 0) ⟨(i 2).val / 128, Nat.div_lt_of_lt_mul (i 2).isLt⟩ (i 1)

/-- The second result as an array. -/
def selArr (A : Args) : Vec Ideal ⟨2, ![2, 768]⟩ .f32 := fun i => ((A.sel (i 0) (i 1) : ℝ) : EReal)

end Cert.Spec

end
-- ==== Proof.Outs.lean ====
module

public import proofs.«01_k».proof.Proof.Runs

/-! The twelve slabs the kernel body stores into its output block, each as a function of the staged inputs. -/

@[expose] public section

set_option maxRecDepth 16384

noncomputable section

namespace Cert.KernelIdeal.Gen

open Idealize.ShloMosaic Idealize.ShloMosaic.TcCoe

variable {F : FTy → Type} [FloatOps F] [Named F]

/-- What the kernel stores for head 0 of a group and query block 0: the stored 128-column slab, as the program
    computes it from the staged inputs and the penalty table `s`. -/
def head_0_0 (x0 x1 x2 : Vec F S1x4x768x128 .fp8e4m3) (x3 x4 x5 : Vec F S1x1x4x768 .f32) (s : Vec F S768x768 .f32) :
    FVec F S1x256x128 .bf16 :=
  k0_pay169 (k0_pay163 (View.ld x3 (Rect.unit ![0, 0, 0, 0] ![1, 1, 1, 768] inb_S1x1x4x768_S1x1x1x768_0_0_0_0)))
    (k0_pay164 (View.ld x4 (Rect.unit ![0, 0, 0, 0] ![1, 1, 4, 768] inb_S1x1x4x768_S1x1x4x768_0_0_0_0))) (k0_pay165
    (View.ld x2 (Rect.unit ![0, 0, 0, 0] ![1, 1, 768, 128] inb_S1x4x768x128_S1x1x768x128_0_0_0_0)) (View.ld x5
    (Rect.unit ![0, 0, 0, 0] ![1, 1, 1, 768] inb_S1x1x4x768_S1x1x1x768_0_0_0_0))) (k0_pay166 (View.ld x1 (Rect.unit
    ![0, 0, 0, 0] ![1, 1, 256, 128] inb_S1x4x768x128_S1x1x256x128_0_0_0_0)) (View.ld x0 (Rect.unit ![0, 0, 0, 0]
    ![1, 1, 256, 128] inb_S1x4x768x128_S1x1x256x128_0_0_0_0))) (k0_pay167 (View.ld x1 (Rect.unit ![0, 0, 0, 0] ![1,
    1, 256, 128] inb_S1x4x768x128_S1x1x256x128_0_0_0_0)) (View.ld x0 (Rect.unit ![0, 0, 0, 0] ![1, 1, 256, 128]
    inb_S1x4x768x128_S1x1x256x128_0_0_0_0))) (k0_pay168 (View.ld x3 (Rect.unit ![0, 0, 0, 0] ![1, 1, 1, 768]
    inb_S1x1x4x768_S1x1x1x768_0_0_0_0))) (View.ld s (Rect.unit ![0, 0] ![128, 128] inb_S768x768_S128x128_0_0))
    (View.ld s (Rect.unit ![0, 128] ![256, 128] inb_S768x768_S256x128_0_128))

/-- What the kernel stores for head 0 of a group and query block 1: the stored 128-column slab, as the program
    computes it from the staged inputs and the penalty table `s`. -/
def head_0_1 (x0 x1 x2 : Vec F S1x4x768x128 .fp8e4m3) (x3 x4 x5 : Vec F S1x1x4x768 .f32) (s : Vec F S768x768 .f32) :
    FVec F S1x256x128 .bf16 :=
  k0_pay176 (k0_pay173 (k0_pay163 (View.ld x3 (Rect.unit ![0, 0, 0, 0] ![1, 1, 1, 768]
    inb_S1x1x4x768_S1x1x1x768_0_0_0_0))) (k0_pay164 (View.ld x4 (Rect.unit ![0, 0, 0, 0] ![1, 1, 4, 768]
    inb_S1x1x4x768_S1x1x4x768_0_0_0_0))) (View.ld x1 (Rect.unit ![0, 0, 0, 0] ![1, 1, 512, 128]
    inb_S1x4x768x128_S1x1x512x128_0_0_0_0)) (View.ld x0 (Rect.unit ![0, 0, 256, 0] ![1, 1, 256, 128]
    inb_S1x4x768x128_S1x1x256x128_0_0_256_0)) (View.ld s (Rect.unit ![0, 256] ![384, 128]
    inb_S768x768_S384x128_0_256)) (View.ld s (Rect.unit ![0, 384] ![512, 128] inb_S768x768_S512x128_0_384)))
    (k0_pay174 (k0_pay163 (View.ld x3 (Rect.unit ![0, 0, 0, 0] ![1, 1, 1, 768] inb_S1x1x4x768_S1x1x1x768_0_0_0_0)))
    (k0_pay164 (View.ld x4 (Rect.unit ![0, 0, 0, 0] ![1, 1, 4, 768] inb_S1x1x4x768_S1x1x4x768_0_0_0_0))) (View.ld x1
    (Rect.unit ![0, 0, 0, 0] ![1, 1, 512, 128] inb_S1x4x768x128_S1x1x512x128_0_0_0_0)) (View.ld x0 (Rect.unit ![0,
    0, 256, 0] ![1, 1, 256, 128] inb_S1x4x768x128_S1x1x256x128_0_0_256_0)) (View.ld s (Rect.unit ![0, 256] ![384,
    128] inb_S768x768_S384x128_0_256)) (View.ld s (Rect.unit ![0, 384] ![512, 128] inb_S768x768_S512x128_0_384)))
    (k0_pay175 (k0_pay165 (View.ld x2 (Rect.unit ![0, 0, 0, 0] ![1, 1, 768, 128]
    inb_S1x4x768x128_S1x1x768x128_0_0_0_0)) (View.ld x5 (Rect.unit ![0, 0, 0, 0] ![1, 1, 1, 768]
    inb_S1x1x4x768_S1x1x1x768_0_0_0_0))))

/-- What the kernel stores for head 0 of a group and query block 2: the stored 128-column slab, as the program
    computes it from the staged inputs and the penalty table `s`. -/
def head_0_2 (x0 x1 x2 : Vec F S1x4x768x128 .fp8e4m3) (x3 x4 x5 : Vec F S1x1x4x768 .f32) (s : Vec F S768x768 .f32) :
    FVec F S1x256x128 .bf16 :=
  k0_pay182 (k0_pay165 (View.ld x2 (Rect.unit ![0, 0, 0, 0] ![1, 1, 768, 128]
    inb_S1x4x768x128_S1x1x768x128_0_0_0_0)) (View.ld x5 (Rect.unit ![0, 0, 0, 0] ![1, 1, 1, 768]
    inb_S1x1x4x768_S1x1x1x768_0_0_0_0))) (k0_pay179 (k0_pay163 (View.ld x3 (Rect.unit ![0, 0, 0, 0] ![1, 1, 1, 768]
    inb_S1x1x4x768_S1x1x1x768_0_0_0_0))) (k0_pay164 (View.ld x4 (Rect.unit ![0, 0, 0, 0] ![1, 1, 4, 768]
    inb_S1x1x4x768_S1x1x4x768_0_0_0_0))) (View.ld x1 (Rect.unit ![0, 0, 0, 0] ![1, 1, 768, 128]
    inb_S1x4x768x128_S1x1x768x128_0_0_0_0)) (View.ld x0 (Rect.unit ![0, 0, 512, 0] ![1, 1, 256, 128]
    inb_S1x4x768x128_S1x1x256x128_0_0_512_0)) (View.ld s (Rect.unit ![0, 512] ![640, 128]
    inb_S768x768_S640x128_0_512))) (k0_pay180 (k0_pay163 (View.ld x3 (Rect.unit ![0, 0, 0, 0] ![1, 1, 1, 768]
    inb_S1x1x4x768_S1x1x1x768_0_0_0_0))) (k0_pay164 (View.ld x4 (Rect.unit ![0, 0, 0, 0] ![1, 1, 4, 768]
    inb_S1x1x4x768_S1x1x4x768_0_0_0_0))) (View.ld x1 (Rect.unit ![0, 0, 0, 0] ![1, 1, 768, 128]
    inb_S1x4x768x128_S1x1x768x128_0_0_0_0)) (View.ld x0 (Rect.unit ![0, 0, 512, 0] ![1, 1, 256, 128]
    inb_S1x4x768x128_S1x1x256x128_0_0_512_0)) (View.ld s (Rect.unit ![0, 512] ![640, 128]
    inb_S768x768_S640x128_0_512))) (k0_pay181 (k0_pay163 (View.ld x3 (Rect.unit ![0, 0, 0, 0] ![1, 1, 1, 768]
    inb_S1x1x4x768_S1x1x1x768_0_0_0_0))) (k0_pay164 (View.ld x4 (Rect.unit ![0, 0, 0, 0] ![1, 1, 4, 768]
    inb_S1x1x4x768_S1x1x4x768_0_0_0_0))) (View.ld x1 (Rect.unit ![0, 0, 0, 0] ![1, 1, 768, 128]
    inb_S1x4x768x128_S1x1x768x128_0_0_0_0)) (View.ld x0 (Rect.unit ![0, 0, 512, 0] ![1, 1, 256, 128]
    inb_S1x4x768x128_S1x1x256x128_0_0_512_0))) (View.ld s (Rect.unit ![0, 640] ![768, 128]
    inb_S768x768_S768x128_0_640))

/-- What the kernel stores for head 1 of a group and query block 0: the stored 128-column slab, as the program
    computes it from the staged inputs and the penalty table `s`. -/
def head_1_0 (x0 x1 x2 : Vec F S1x4x768x128 .fp8e4m3) (x3 x4 x5 : Vec F S1x1x4x768 .f32) (s : Vec F S768x768 .f32) :
    FVec F S1x256x128 .bf16 :=
  k0_pay192 (k0_pay189 (k0_pay183 (View.ld x3 (Rect.unit ![0, 0, 1, 0] ![1, 1, 1, 768]
    inb_S1x1x4x768_S1x1x1x768_0_0_1_0))) (k0_pay184 (k0_pay162 (View.ld x4 (Rect.unit ![0, 0, 0, 0] ![1, 1, 4, 768]
    inb_S1x1x4x768_S1x1x4x768_0_0_0_0)))) (View.ld x1 (Rect.unit ![0, 1, 0, 0] ![1, 1, 256, 128]
    inb_S1x4x768x128_S1x1x256x128_0_1_0_0)) (View.ld x0 (Rect.unit ![0, 1, 0, 0] ![1, 1, 256, 128]
    inb_S1x4x768x128_S1x1x256x128_0_1_0_0)) (View.ld s (Rect.unit ![0, 0] ![128, 128] inb_S768x768_S128x128_0_0))
    (View.ld s (Rect.unit ![0, 128] ![256, 128] inb_S768x768_S256x128_0_128))) (k0_pay190 (k0_pay183 (View.ld x3
    (Rect.unit ![0, 0, 1, 0] ![1, 1, 1, 768] inb_S1x1x4x768_S1x1x1x768_0_0_1_0))) (k0_pay184 (k0_pay162 (View.ld x4
    (Rect.unit ![0, 0, 0, 0] ![1, 1, 4, 768] inb_S1x1x4x768_S1x1x4x768_0_0_0_0)))) (View.ld x1 (Rect.unit ![0, 1, 0,
    0] ![1, 1, 256, 128] inb_S1x4x768x128_S1x1x256x128_0_1_0_0)) (View.ld x0 (Rect.unit ![0, 1, 0, 0] ![1, 1, 256,
    128] inb_S1x4x768x128_S1x1x256x128_0_1_0_0)) (View.ld s (Rect.unit ![0, 0] ![128, 128]
    inb_S768x768_S128x128_0_0)) (View.ld s (Rect.unit ![0, 128] ![256, 128] inb_S768x768_S256x128_0_128)))
    (k0_pay191 (k0_pay185 (View.ld x2 (Rect.unit ![0, 1, 0, 0] ![1, 1, 768, 128]
    inb_S1x4x768x128_S1x1x768x128_0_1_0_0)) (View.ld x5 (Rect.unit ![0, 0, 1, 0] ![1, 1, 1, 768]
    inb_S1x1x4x768_S1x1x1x768_0_0_1_0)))) (constant S128x256 FTy.f32 0#32)

/-- What the kernel stores for head 1 of a group and query block 1: the stored 128-column slab, as the program
    computes it from the staged inputs and the penalty table `s`. -/
def head_1_1 (x0 x1 x2 : Vec F S1x4x768x128 .fp8e4m3) (x3 x4 x5 : Vec F S1x1x4x768 .f32) (s : Vec F S768x768 .f32) :
    FVec F S1x256x128 .bf16 :=
  k0_pay198 (k0_pay185 (View.ld x2 (Rect.unit ![0, 1, 0, 0] ![1, 1, 768, 128]
    inb_S1x4x768x128_S1x1x768x128_0_1_0_0)) (View.ld x5 (Rect.unit ![0, 0, 1, 0] ![1, 1, 1, 768]
    inb_S1x1x4x768_S1x1x1x768_0_0_1_0))) (k0_pay195 (k0_pay183 (View.ld x3 (Rect.unit ![0, 0, 1, 0] ![1, 1, 1, 768]
    inb_S1x1x4x768_S1x1x1x768_0_0_1_0))) (k0_pay184 (k0_pay162 (View.ld x4 (Rect.unit ![0, 0, 0, 0] ![1, 1, 4, 768]
    inb_S1x1x4x768_S1x1x4x768_0_0_0_0)))) (View.ld x1 (Rect.unit ![0, 1, 0, 0] ![1, 1, 512, 128]
    inb_S1x4x768x128_S1x1x512x128_0_1_0_0)) (View.ld x0 (Rect.unit ![0, 1, 256, 0] ![1, 1, 256, 128]
    inb_S1x4x768x128_S1x1x256x128_0_1_256_0)) (View.ld s (Rect.unit ![0, 256] ![384, 128]
    inb_S768x768_S384x128_0_256))) (k0_pay196 (k0_pay183 (View.ld x3 (Rect.unit ![0, 0, 1, 0] ![1, 1, 1, 768]
    inb_S1x1x4x768_S1x1x1x768_0_0_1_0))) (k0_pay184 (k0_pay162 (View.ld x4 (Rect.unit ![0, 0, 0, 0] ![1, 1, 4, 768]
    inb_S1x1x4x768_S1x1x4x768_0_0_0_0)))) (View.ld x1 (Rect.unit ![0, 1, 0, 0] ![1, 1, 512, 128]
    inb_S1x4x768x128_S1x1x512x128_0_1_0_0)) (View.ld x0 (Rect.unit ![0, 1, 256, 0] ![1, 1, 256, 128]
    inb_S1x4x768x128_S1x1x256x128_0_1_256_0)) (View.ld s (Rect.unit ![0, 256] ![384, 128]
    inb_S768x768_S384x128_0_256))) (k0_pay197 (k0_pay183 (View.ld x3 (Rect.unit ![0, 0, 1, 0] ![1, 1, 1, 768]
    inb_S1x1x4x768_S1x1x1x768_0_0_1_0))) (k0_pay184 (k0_pay162 (View.ld x4 (Rect.unit ![0, 0, 0, 0] ![1, 1, 4, 768]
    inb_S1x1x4x768_S1x1x4x768_0_0_0_0)))) (View.ld x1 (Rect.unit ![0, 1, 0, 0] ![1, 1, 512, 128]
    inb_S1x4x768x128_S1x1x512x128_0_1_0_0)) (View.ld x0 (Rect.unit ![0, 1, 256, 0] ![1, 1, 256, 128]
    inb_S1x4x768x128_S1x1x256x128_0_1_256_0))) (View.ld s (Rect.unit ![0, 384] ![512, 128]
    inb_S768x768_S512x128_0_384))

/-- What the kernel stores for head 1 of a group and query block 2: the stored 128-column slab, as the program
    computes it from the staged inputs and the penalty table `s`. -/
def head_1_2 (x0 x1 x2 : Vec F S1x4x768x128 .fp8e4m3) (x3 x4 x5 : Vec F S1x1x4x768 .f32) (s : Vec F S768x768 .f32) :
    FVec F S1x256x128 .bf16 :=
  k0_pay201 (k0_pay183 (View.ld x3 (Rect.unit ![0, 0, 1, 0] ![1, 1, 1, 768] inb_S1x1x4x768_S1x1x1x768_0_0_1_0)))
    (k0_pay184 (k0_pay162 (View.ld x4 (Rect.unit ![0, 0, 0, 0] ![1, 1, 4, 768] inb_S1x1x4x768_S1x1x4x768_0_0_0_0))))
    (k0_pay185 (View.ld x2 (Rect.unit ![0, 1, 0, 0] ![1, 1, 768, 128] inb_S1x4x768x128_S1x1x768x128_0_1_0_0))
    (View.ld x5 (Rect.unit ![0, 0, 1, 0] ![1, 1, 1, 768] inb_S1x1x4x768_S1x1x1x768_0_0_1_0))) (k0_pay199 (View.ld x1
    (Rect.unit ![0, 1, 0, 0] ![1, 1, 768, 128] inb_S1x4x768x128_S1x1x768x128_0_1_0_0)) (View.ld x0 (Rect.unit ![0,
    1, 512, 0] ![1, 1, 256, 128] inb_S1x4x768x128_S1x1x256x128_0_1_512_0))) (k0_pay200 (k0_pay183 (View.ld x3
    (Rect.unit ![0, 0, 1, 0] ![1, 1, 1, 768] inb_S1x1x4x768_S1x1x1x768_0_0_1_0))) (k0_pay184 (k0_pay162 (View.ld x4
    (Rect.unit ![0, 0, 0, 0] ![1, 1, 4, 768] inb_S1x1x4x768_S1x1x4x768_0_0_0_0)))) (View.ld x1 (Rect.unit ![0, 1, 0,
    0] ![1, 1, 768, 128] inb_S1x4x768x128_S1x1x768x128_0_1_0_0)) (View.ld x0 (Rect.unit ![0, 1, 512, 0] ![1, 1, 256,
    128] inb_S1x4x768x128_S1x1x256x128_0_1_512_0)) (View.ld s (Rect.unit ![0, 512] ![640, 128]
    inb_S768x768_S640x128_0_512))) (View.ld s (Rect.unit ![0, 640] ![768, 128] inb_S768x768_S768x128_0_640))

/-- What the kernel stores for head 2 of a group and query block 0: the stored 128-column slab, as the program
    computes it from the staged inputs and the penalty table `s`. -/
def head_2_0 (x0 x1 x2 : Vec F S1x4x768x128 .fp8e4m3) (x3 x4 x5 : Vec F S1x1x4x768 .f32) (s : Vec F S768x768 .f32) :
    FVec F S1x256x128 .bf16 :=
  k0_pay210 (k0_pay204 (View.ld x2 (Rect.unit ![0, 2, 0, 0] ![1, 1, 768, 128]
    inb_S1x4x768x128_S1x1x768x128_0_2_0_0)) (View.ld x5 (Rect.unit ![0, 0, 2, 0] ![1, 1, 1, 768]
    inb_S1x1x4x768_S1x1x1x768_0_0_2_0))) (k0_pay207 (k0_pay202 (View.ld x3 (Rect.unit ![0, 0, 2, 0] ![1, 1, 1, 768]
    inb_S1x1x4x768_S1x1x1x768_0_0_2_0))) (k0_pay203 (k0_pay162 (View.ld x4 (Rect.unit ![0, 0, 0, 0] ![1, 1, 4, 768]
    inb_S1x1x4x768_S1x1x4x768_0_0_0_0)))) (View.ld x1 (Rect.unit ![0, 2, 0, 0] ![1, 1, 256, 128]
    inb_S1x4x768x128_S1x1x256x128_0_2_0_0)) (View.ld x0 (Rect.unit ![0, 2, 0, 0] ![1, 1, 256, 128]
    inb_S1x4x768x128_S1x1x256x128_0_2_0_0)) (View.ld s (Rect.unit ![0, 0] ![128, 128] inb_S768x768_S128x128_0_0)))
    (k0_pay208 (k0_pay202 (View.ld x3 (Rect.unit ![0, 0, 2, 0] ![1, 1, 1, 768] inb_S1x1x4x768_S1x1x1x768_0_0_2_0)))
    (k0_pay203 (k0_pay162 (View.ld x4 (Rect.unit ![0, 0, 0, 0] ![1, 1, 4, 768] inb_S1x1x4x768_S1x1x4x768_0_0_0_0))))
    (View.ld x1 (Rect.unit ![0, 2, 0, 0] ![1, 1, 256, 128] inb_S1x4x768x128_S1x1x256x128_0_2_0_0)) (View.ld x0
    (Rect.unit ![0, 2, 0, 0] ![1, 1, 256, 128] inb_S1x4x768x128_S1x1x256x128_0_2_0_0)) (View.ld s (Rect.unit ![0, 0]
    ![128, 128] inb_S768x768_S128x128_0_0))) (k0_pay209 (k0_pay202 (View.ld x3 (Rect.unit ![0, 0, 2, 0] ![1, 1, 1,
    768] inb_S1x1x4x768_S1x1x1x768_0_0_2_0))) (k0_pay203 (k0_pay162 (View.ld x4 (Rect.unit ![0, 0, 0, 0] ![1, 1, 4,
    768] inb_S1x1x4x768_S1x1x4x768_0_0_0_0)))) (View.ld x1 (Rect.unit ![0, 2, 0, 0] ![1, 1, 256, 128]
    inb_S1x4x768x128_S1x1x256x128_0_2_0_0)) (View.ld x0 (Rect.unit ![0, 2, 0, 0] ![1, 1, 256, 128]
    inb_S1x4x768x128_S1x1x256x128_0_2_0_0))) (View.ld s (Rect.unit ![0, 128] ![256, 128]
    inb_S768x768_S256x128_0_128))

/-- What the kernel stores for head 2 of a group and query block 1: the stored 128-column slab, as the program
    computes it from the staged inputs and the penalty table `s`. -/
def head_2_1 (x0 x1 x2 : Vec F S1x4x768x128 .fp8e4m3) (x3 x4 x5 : Vec F S1x1x4x768 .f32) (s : Vec F S768x768 .f32) :
    FVec F S1x256x128 .bf16 :=
  k0_pay213 (k0_pay202 (View.ld x3 (Rect.unit ![0, 0, 2, 0] ![1, 1, 1, 768] inb_S1x1x4x768_S1x1x1x768_0_0_2_0)))
    (k0_pay203 (k0_pay162 (View.ld x4 (Rect.unit ![0, 0, 0, 0] ![1, 1, 4, 768] inb_S1x1x4x768_S1x1x4x768_0_0_0_0))))
    (k0_pay204 (View.ld x2 (Rect.unit ![0, 2, 0, 0] ![1, 1, 768, 128] inb_S1x4x768x128_S1x1x768x128_0_2_0_0))
    (View.ld x5 (Rect.unit ![0, 0, 2, 0] ![1, 1, 1, 768] inb_S1x1x4x768_S1x1x1x768_0_0_2_0))) (k0_pay211 (View.ld x1
    (Rect.unit ![0, 2, 0, 0] ![1, 1, 512, 128] inb_S1x4x768x128_S1x1x512x128_0_2_0_0)) (View.ld x0 (Rect.unit ![0,
    2, 256, 0] ![1, 1, 256, 128] inb_S1x4x768x128_S1x1x256x128_0_2_256_0))) (k0_pay212 (k0_pay202 (View.ld x3
    (Rect.unit ![0, 0, 2, 0] ![1, 1, 1, 768] inb_S1x1x4x768_S1x1x1x768_0_0_2_0))) (k0_pay203 (k0_pay162 (View.ld x4
    (Rect.unit ![0, 0, 0, 0] ![1, 1, 4, 768] inb_S1x1x4x768_S1x1x4x768_0_0_0_0)))) (View.ld x1 (Rect.unit ![0, 2, 0,
    0] ![1, 1, 512, 128] inb_S1x4x768x128_S1x1x512x128_0_2_0_0)) (View.ld x0 (Rect.unit ![0, 2, 256, 0] ![1, 1, 256,
    128] inb_S1x4x768x128_S1x1x256x128_0_2_256_0)) (View.ld s (Rect.unit ![0, 256] ![384, 128]
    inb_S768x768_S384x128_0_256))) (View.ld s (Rect.unit ![0, 384] ![512, 128] inb_S768x768_S512x128_0_384))

/-- What the kernel stores for head 2 of a group and query block 2: the stored 128-column slab, as the program
    computes it from the staged inputs and the penalty table `s`. -/
def head_2_2 (x0 x1 x2 : Vec F S1x4x768x128 .fp8e4m3) (x3 x4 x5 : Vec F S1x1x4x768 .f32) (s : Vec F S768x768 .f32) :
    FVec F S1x256x128 .bf16 :=
  k0_pay215 (k0_pay202 (View.ld x3 (Rect.unit ![0, 0, 2, 0] ![1, 1, 1, 768] inb_S1x1x4x768_S1x1x1x768_0_0_2_0)))
    (k0_pay203 (k0_pay162 (View.ld x4 (Rect.unit ![0, 0, 0, 0] ![1, 1, 4, 768] inb_S1x1x4x768_S1x1x4x768_0_0_0_0))))
    (k0_pay204 (View.ld x2 (Rect.unit ![0, 2, 0, 0] ![1, 1, 768, 128] inb_S1x4x768x128_S1x1x768x128_0_2_0_0))
    (View.ld x5 (Rect.unit ![0, 0, 2, 0] ![1, 1, 1, 768] inb_S1x1x4x768_S1x1x1x768_0_0_2_0))) (k0_pay214 (View.ld x1
    (Rect.unit ![0, 2, 0, 0] ![1, 1, 768, 128] inb_S1x4x768x128_S1x1x768x128_0_2_0_0)) (View.ld x0 (Rect.unit ![0,
    2, 512, 0] ![1, 1, 256, 128] inb_S1x4x768x128_S1x1x256x128_0_2_512_0))) (View.ld s (Rect.unit ![0, 512] ![640,
    128] inb_S768x768_S640x128_0_512)) (View.ld s (Rect.unit ![0, 640] ![768, 128] inb_S768x768_S768x128_0_640))

/-- What the kernel stores for head 3 of a group and query block 0: the stored 128-column slab, as the program
    computes it from the staged inputs and the penalty table `s`. -/
def head_3_0 (x0 x1 x2 : Vec F S1x4x768x128 .fp8e4m3) (x3 x4 x5 : Vec F S1x1x4x768 .f32) (s : Vec F S768x768 .f32) :
    FVec F S1x256x128 .bf16 :=
  k0_pay221 (k0_pay216 (View.ld x3 (Rect.unit ![0, 0, 3, 0] ![1, 1, 1, 768] inb_S1x1x4x768_S1x1x1x768_0_0_3_0)))
    (k0_pay217 (k0_pay162 (View.ld x4 (Rect.unit ![0, 0, 0, 0] ![1, 1, 4, 768] inb_S1x1x4x768_S1x1x4x768_0_0_0_0))))
    (k0_pay218 (View.ld x2 (Rect.unit ![0, 3, 0, 0] ![1, 1, 768, 128] inb_S1x4x768x128_S1x1x768x128_0_3_0_0))
    (View.ld x5 (Rect.unit ![0, 0, 3, 0] ![1, 1, 1, 768] inb_S1x1x4x768_S1x1x1x768_0_0_3_0))) (k0_pay219 (View.ld x1
    (Rect.unit ![0, 3, 0, 0] ![1, 1, 256, 128] inb_S1x4x768x128_S1x1x256x128_0_3_0_0)) (View.ld x0 (Rect.unit ![0,
    3, 0, 0] ![1, 1, 256, 128] inb_S1x4x768x128_S1x1x256x128_0_3_0_0))) (k0_pay220 (k0_pay162 (View.ld x4 (Rect.unit
    ![0, 0, 0, 0] ![1, 1, 4, 768] inb_S1x1x4x768_S1x1x4x768_0_0_0_0))) (View.ld x3 (Rect.unit ![0, 0, 3, 0] ![1, 1,
    1, 768] inb_S1x1x4x768_S1x1x1x768_0_0_3_0)) (View.ld x1 (Rect.unit ![0, 3, 0, 0] ![1, 1, 256, 128]
    inb_S1x4x768x128_S1x1x256x128_0_3_0_0)) (View.ld x0 (Rect.unit ![0, 3, 0, 0] ![1, 1, 256, 128]
    inb_S1x4x768x128_S1x1x256x128_0_3_0_0)) (View.ld s (Rect.unit ![0, 0] ![128, 128] inb_S768x768_S128x128_0_0)))
    (View.ld s (Rect.unit ![0, 128] ![256, 128] inb_S768x768_S256x128_0_128))

/-- What the kernel stores for head 3 of a group and query block 1: the stored 128-column slab, as the program
    computes it from the staged inputs and the penalty table `s`. -/
def head_3_1 (x0 x1 x2 : Vec F S1x4x768x128 .fp8e4m3) (x3 x4 x5 : Vec F S1x1x4x768 .f32) (s : Vec F S768x768 .f32) :
    FVec F S1x256x128 .bf16 :=
  k0_pay224 (k0_pay216 (View.ld x3 (Rect.unit ![0, 0, 3, 0] ![1, 1, 1, 768] inb_S1x1x4x768_S1x1x1x768_0_0_3_0)))
    (k0_pay217 (k0_pay162 (View.ld x4 (Rect.unit ![0, 0, 0, 0] ![1, 1, 4, 768] inb_S1x1x4x768_S1x1x4x768_0_0_0_0))))
    (k0_pay218 (View.ld x2 (Rect.unit ![0, 3, 0, 0] ![1, 1, 768, 128] inb_S1x4x768x128_S1x1x768x128_0_3_0_0))
    (View.ld x5 (Rect.unit ![0, 0, 3, 0] ![1, 1, 1, 768] inb_S1x1x4x768_S1x1x1x768_0_0_3_0))) (k0_pay222 (View.ld x1
    (Rect.unit ![0, 3, 0, 0] ![1, 1, 512, 128] inb_S1x4x768x128_S1x1x512x128_0_3_0_0)) (View.ld x0 (Rect.unit ![0,
    3, 256, 0] ![1, 1, 256, 128] inb_S1x4x768x128_S1x1x256x128_0_3_256_0))) (k0_pay223 (View.ld x1 (Rect.unit ![0,
    3, 0, 0] ![1, 1, 512, 128] inb_S1x4x768x128_S1x1x512x128_0_3_0_0)) (View.ld x0 (Rect.unit ![0, 3, 256, 0] ![1,
    1, 256, 128] inb_S1x4x768x128_S1x1x256x128_0_3_256_0))) (View.ld s (Rect.unit ![0, 256] ![384, 128]
    inb_S768x768_S384x128_0_256)) (View.ld s (Rect.unit ![0, 384] ![512, 128] inb_S768x768_S512x128_0_384))

/-- What the kernel stores for head 3 of a group and query block 2: the stored 128-column slab, as the program
    computes it from the staged inputs and the penalty table `s`. -/
def head_3_2 (x0 x1 x2 : Vec F S1x4x768x128 .fp8e4m3) (x3 x4 x5 : Vec F S1x1x4x768 .f32) (s : Vec F S768x768 .f32) :
    FVec F S1x256x128 .bf16 :=
  k0_pay1 (k0_pay218 (View.ld x2 (Rect.unit ![0, 3, 0, 0] ![1, 1, 768, 128] inb_S1x4x768x128_S1x1x768x128_0_3_0_0))
    (View.ld x5 (Rect.unit ![0, 0, 3, 0] ![1, 1, 1, 768] inb_S1x1x4x768_S1x1x1x768_0_0_3_0))) (k0_pay228 (k0_pay216
    (View.ld x3 (Rect.unit ![0, 0, 3, 0] ![1, 1, 1, 768] inb_S1x1x4x768_S1x1x1x768_0_0_3_0))) (k0_pay217 (k0_pay162
    (View.ld x4 (Rect.unit ![0, 0, 0, 0] ![1, 1, 4, 768] inb_S1x1x4x768_S1x1x4x768_0_0_0_0)))) (View.ld x1
    (Rect.unit ![0, 3, 0, 0] ![1, 1, 768, 128] inb_S1x4x768x128_S1x1x768x128_0_3_0_0)) (View.ld x0 (Rect.unit ![0,
    3, 512, 0] ![1, 1, 256, 128] inb_S1x4x768x128_S1x1x256x128_0_3_512_0)) (View.ld s (Rect.unit ![0, 512] ![640,
    128] inb_S768x768_S640x128_0_512)) (View.ld s (Rect.unit ![0, 640] ![768, 128] inb_S768x768_S768x128_0_640)))
    (k0_pay229 (k0_pay216 (View.ld x3 (Rect.unit ![0, 0, 3, 0] ![1, 1, 1, 768] inb_S1x1x4x768_S1x1x1x768_0_0_3_0)))
    (k0_pay217 (k0_pay162 (View.ld x4 (Rect.unit ![0, 0, 0, 0] ![1, 1, 4, 768] inb_S1x1x4x768_S1x1x4x768_0_0_0_0))))
    (View.ld x1 (Rect.unit ![0, 3, 0, 0] ![1, 1, 768, 128] inb_S1x4x768x128_S1x1x768x128_0_3_0_0)) (View.ld x0
    (Rect.unit ![0, 3, 512, 0] ![1, 1, 256, 128] inb_S1x4x768x128_S1x1x256x128_0_3_512_0)) (View.ld s (Rect.unit
    ![0, 512] ![640, 128] inb_S768x768_S640x128_0_512)) (View.ld s (Rect.unit ![0, 640] ![768, 128]
    inb_S768x768_S768x128_0_640))) (constant S128x256 FTy.f32 0#32)

/-- The stores into the output block, last store first. -/
def outPieces (x0 x1 x2 : Vec F S1x4x768x128 .fp8e4m3) (x3 x4 x5 : Vec F S1x1x4x768 .f32) (s : Vec F S768x768 .f32) :
    List (View.Piece (Elt F) S1x768x512 .bf16) :=
  [⟨Rect.unit ![0, 512, 384] ![1, 256, 128] inb_S1x768x512_S1x256x128_0_512_384, head_3_2 x0 x1 x2 x3 x4 x5 s⟩,
   ⟨Rect.unit ![0, 256, 384] ![1, 256, 128] inb_S1x768x512_S1x256x128_0_256_384, head_3_1 x0 x1 x2 x3 x4 x5 s⟩,
   ⟨Rect.unit ![0, 0, 384] ![1, 256, 128] inb_S1x768x512_S1x256x128_0_0_384, head_3_0 x0 x1 x2 x3 x4 x5 s⟩,
   ⟨Rect.unit ![0, 512, 256] ![1, 256, 128] inb_S1x768x512_S1x256x128_0_512_256, head_2_2 x0 x1 x2 x3 x4 x5 s⟩,
   ⟨Rect.unit ![0, 256, 256] ![1, 256, 128] inb_S1x768x512_S1x256x128_0_256_256, head_2_1 x0 x1 x2 x3 x4 x5 s⟩,
   ⟨Rect.unit ![0, 0, 256] ![1, 256, 128] inb_S1x768x512_S1x256x128_0_0_256, head_2_0 x0 x1 x2 x3 x4 x5 s⟩,
   ⟨Rect.unit ![0, 512, 128] ![1, 256, 128] inb_S1x768x512_S1x256x128_0_512_128, head_1_2 x0 x1 x2 x3 x4 x5 s⟩,
   ⟨Rect.unit ![0, 256, 128] ![1, 256, 128] inb_S1x768x512_S1x256x128_0_256_128, head_1_1 x0 x1 x2 x3 x4 x5 s⟩,
   ⟨Rect.unit ![0, 0, 128] ![1, 256, 128] inb_S1x768x512_S1x256x128_0_0_128, head_1_0 x0 x1 x2 x3 x4 x5 s⟩,
   ⟨Rect.unit ![0, 512, 0] ![1, 256, 128] inb_S1x768x512_S1x256x128_0_512_0, head_0_2 x0 x1 x2 x3 x4 x5 s⟩,
   ⟨Rect.unit ![0, 256, 0] ![1, 256, 128] inb_S1x768x512_S1x256x128_0_256_0, head_0_1 x0 x1 x2 x3 x4 x5 s⟩,
   ⟨Rect.unit ![0, 0, 0] ![1, 256, 128] inb_S1x768x512_S1x256x128_0_0_0, head_0_0 x0 x1 x2 x3 x4 x5 s⟩]

/-- The output block a grid point leaves. -/
def outB (x0 x1 x2 : Vec F S1x4x768x128 .fp8e4m3) (x3 x4 x5 : Vec F S1x1x4x768 .f32) (s : Vec F S768x768 .f32) :
    Vec F S1x768x512 .bf16 :=
  View.canon (outPieces x0 x1 x2 x3 x4 x5 s)

end Cert.KernelIdeal.Gen

end
-- ==== Proof.Cover.lean ====
module

public import proofs.«01_k».proof.Proof.Outs
public import Idealize.ShloMosaic.Lib.VecWindow

/-! Reading back the kernel's stores: the twelve slabs cover the output block, a row store overwrites a row. -/

@[expose] public section

set_option maxRecDepth 16384

noncomputable section

namespace Cert.KernelIdeal.Gen

open Idealize.ShloMosaic Idealize.ShloMosaic.TcCoe

variable {F : FTy → Type} [FloatOps F] [Named F]

/-- The twelve slabs cover the output block. -/
theorem outPieces_cover (x0 x1 x2 : Vec F S1x4x768x128 .fp8e4m3) (x3 x4 x5 : Vec F S1x1x4x768 .f32) (s : Vec F S768x768 .f32) :
    ∀ y : S1x768x512.Idx, ∃ p ∈ outPieces x0 x1 x2 x3 x4 x5 s, y ∈ p.1.set :=
  View.cover_of_tiled (outPieces x0 x1 x2 x3 x4 x5 s) ![1, 256, 128] rfl

/-- Covering stores leave their own contents, whatever was there. -/
theorem out_of_eq {κ : Kind} {sp : Space} {v : View sig κ sp S1x768x512 .bf16} {f : v.ty.Contents (Elt F)}
    {L L' : List (View.Piece (Elt F) S1x768x512 .bf16)} (hL : ∀ y, ∃ p ∈ L', y ∈ p.1.set) (e : L = L') :
    v.read (Elt F) (v.writes (Elt F) f L) = View.canon L' :=
  e ▸ View.read_writes_eq_canon v f L' hL

set_option backward.isDefEq.respectTransparency false in
/-- One store over a window leaves the contents with the window replaced. -/
theorem put_of_eq {κ : Kind} {sp : Space} {v : View sig κ sp S2x768 .f32} {f : v.ty.Contents (Elt F)}
    {y : S2x768.Idx → Elt F .f32} (hf : v.read (Elt F) f = y) {off size : Fin S2x768.rank → ℕ}
    {inb : ∀ a, off a + size a ≤ S2x768.size a}
    {w w' : (Rect.unit off size inb).shape.Idx → Elt F .f32} (e : w = w') :
    v.read (Elt F) (v.writes (Elt F) f [⟨Rect.unit off size inb, w⟩]) = VecWindow.put y off size w' := by
  subst hf e
  rw [View.read_writes_cons_put v f inb w [] rfl, View.writes_nil]

end Cert.KernelIdeal.Gen

end
-- ==== Proof.RunA.lean ====
module

public import proofs.«01_k».proof.Proof.Outs
public import proofs.«01_k».proof.Proof.Tile
public import proofs.«01_k».proof.Proof.Cover

/-! The kernel body's run, at the first grid point. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first grid point: what it leaves in the output block, in a row of the second result and in the penalty table. -/
theorem kernelRun0_A (c : Dev nD) (i : grid0.Coords) (arg2 : Memref sig .tc .vmem S1x4x768x128 .fp8e4m3) (harg2 : arg2.IsWhole) (arg3 : Memref sig .tc .vmem S1x4x768x128 .fp8e4m3) (harg3 : arg3.IsWhole) (arg4 : Memref sig .tc .vmem S1x4x768x128 .fp8e4m3) (harg4 : arg4.IsWhole)
    (arg5 : Memref sig .tc .vmem S1x1x4x768 .f32) (harg5 : arg5.IsWhole) (arg6 : Memref sig .tc .vmem S1x1x4x768 .f32) (harg6 : arg6.IsWhole) (arg7 : Memref sig .tc .vmem S1x1x4x768 .f32) (harg7 : arg7.IsWhole)
    (arg8 : Memref sig .tc .vmem S1x768x512 .bf16) (harg8 : arg8.IsWhole) (arg9 : Memref sig .tc .vmem S2x768 .f32) (harg9 : arg9.IsWhole) (arg10 : Memref sig .tc .vmem S768x768 .f32) (harg10 : arg10.IsWhole) (hc0 : cond0_0 i) (hc1 : cond0_1 i) (hc2 : ¬cond0_2 i)
    (x0 x1 x2 : Vec F S1x4x768x128 .fp8e4m3) (x3 x4 x5 : Vec F S1x1x4x768 .f32) (y : Vec F S2x768 .f32) (s : Vec F S768x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y ∗ owns (c : Thread nD τ) arg10 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outB x0 x1 x2 x3 x4 x5 (View.canon (tiles x0 x1 x3 x4))) ∗ owns (c : Thread nD τ) arg9 fullShare (VecWindow.put y ![0, 0] ![1, 768] (selRow x0 x1 x3 x4)) ∗ (∃ d, ⌜∀ z, (∃ p ∈ tiles x0 x1 x3 x4, z ∈ p.1.set) → d z = View.canon (tiles x0 x1 x3 x4) z⌝ ∗ owns (c : Thread nD τ) arg10 fullShare d)) -∗ K ⟨⟩))
          ⊢ wp frame (wpE (defs₀ (F := F)) Variants.none c none) E (cc0_selective_attention i arg2 harg2 arg3 harg3 arg4 harg4 arg5 harg5 arg6 harg6 arg7 harg7 arg8 harg8 arg9 harg9 arg10 harg10) K := by
    intro E K
    simp only [cc0_selective_attention_eq_skeleton]; unfold cc0_selective_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1 | sl_exact hc2)
    sl_step
    have hs : kernelRun0_A.sl.HS0_21 c arg2 harg2 arg3 harg3 arg5 harg5 arg6 harg6 x0 x1 x3 x4 = tiles x0 x1 x3 x4 := by
      sl_unfold_words
      simp only [View.readAt_eq_ld, harg2.read_unread, harg3.read_unread, harg4.read_unread, harg5.read_unread, harg6.read_unread, harg7.read_unread, harg10.read_unread]
      rfl
    have hv33 : kernelRun0_A.sl.v33 c arg2 harg2 arg3 harg3 arg5 harg5 arg6 harg6 arg10 x0 x1 x3 x4 = View.ld (View.canon (tiles x0 x1 x3 x4)) (Rect.unit ![0, 0] ![128, 128] inb_S768x768_S128x128_0_0) := by
      unfold kernelRun0_A.sl.v33; rw [hs]; exact View.readCov_eq_canon' _ _ _
    have hv51 : kernelRun0_A.sl.v51 c arg2 harg2 arg3 harg3 arg5 harg5 arg6 harg6 arg10 x0 x1 x3 x4 = View.ld (View.canon (tiles x0 x1 x3 x4)) (Rect.unit ![0, 128] ![256, 128] inb_S768x768_S256x128_0_128) := by
      unfold kernelRun0_A.sl.v51; rw [hs]; exact View.readCov_eq_canon' _ _ _
    have hv85 : kernelRun0_A.sl.v85 c arg2 harg2 arg3 harg3 arg5 harg5 arg6 harg6 arg10 x0 x1 x3 x4 = View.ld (View.canon (tiles x0 x1 x3 x4)) (Rect.unit ![0, 256] ![384, 128] inb_S768x768_S384x128_0_256) := by
      unfold kernelRun0_A.sl.v85; rw [hs]; exact View.readCov_eq_canon' _ _ _
    have hv103 : kernelRun0_A.sl.v103 c arg2 harg2 arg3 harg3 arg5 harg5 arg6 harg6 arg10 x0 x1 x3 x4 = View.ld (View.canon (tiles x0 x1 x3 x4)) (Rect.unit ![0, 384] ![512, 128] inb_S768x768_S512x128_0_384) := by
      unfold kernelRun0_A.sl.v103; rw [hs]; exact View.readCov_eq_canon' _ _ _
    have hv137 : kernelRun0_A.sl.v137 c arg2 harg2 arg3 harg3 arg5 harg5 arg6 harg6 arg10 x0 x1 x3 x4 = View.ld (View.canon (tiles x0 x1 x3 x4)) (Rect.unit ![0, 512] ![640, 128] inb_S768x768_S640x128_0_512) := by
      unfold kernelRun0_A.sl.v137; rw [hs]; exact View.readCov_eq_canon' _ _ _
    have hv154 : kernelRun0_A.sl.v154 c arg2 harg2 arg3 harg3 arg5 harg5 arg6 harg6 arg10 x0 x1 x3 x4 = View.ld (View.canon (tiles x0 x1 x3 x4)) (Rect.unit ![0, 640] ![768, 128] inb_S768x768_S768x128_0_640) := by
      unfold kernelRun0_A.sl.v154; rw [hs]; exact View.readCov_eq_canon' _ _ _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine out_of_eq (outPieces_cover _ _ _ _ _ _ _) ?_
      iterate 6 (try delta kernelRun0_A.sl.r_86 kernelRun0_A.sl.r_55 kernelRun0_A.sl.r_58 kernelRun0_A.sl.r_46 kernelRun0_A.sl.r_74 kernelRun0_A.sl.r_56 kernelRun0_A.sl.r_12 kernelRun0_A.sl.r_51 kernelRun0_A.sl.r_39 kernelRun0_A.sl.r_35 kernelRun0_A.sl.r_40 kernelRun0_A.sl.r_71 kernelRun0_A.sl.r_8 kernelRun0_A.sl.r_66 kernelRun0_A.sl.r_28 kernelRun0_A.sl.r_7 kernelRun0_A.sl.r_49 kernelRun0_A.sl.r_60 kernelRun0_A.sl.r_43 kernelRun0_A.sl.r_41 kernelRun0_A.sl.cst_110 kernelRun0_A.sl.r_90 kernelRun0_A.sl.r_78 kernelRun0_A.sl.r_13 kernelRun0_A.sl.r_10 kernelRun0_A.sl.r_95 kernelRun0_A.sl.r_48 kernelRun0_A.sl.r_15 kernelRun0_A.sl.r_17 kernelRun0_A.sl.r_82 kernelRun0_A.sl.r_9 kernelRun0_A.sl.r_33 kernelRun0_A.sl.r_68 kernelRun0_A.sl.r_36 kernelRun0_A.sl.r_42 kernelRun0_A.sl.r_29 kernelRun0_A.sl.r_20 kernelRun0_A.sl.r_25 kernelRun0_A.sl.r_21 kernelRun0_A.sl.r_98 kernelRun0_A.sl.r_92 kernelRun0_A.sl.r_76 kernelRun0_A.sl.r_93 kernelRun0_A.sl.r_96 kernelRun0_A.sl.r_63 kernelRun0_A.sl.r_72 kernelRun0_A.sl.r_37 kernelRun0_A.sl.r_61 kernelRun0_A.sl.r_79 kernelRun0_A.sl.r_50 kernelRun0_A.sl.r_5 kernelRun0_A.sl.r_81 kernelRun0_A.sl.r_24 kernelRun0_A.sl.r_54 kernelRun0_A.sl.r_59 kernelRun0_A.sl.r_34 kernelRun0_A.sl.r_38 kernelRun0_A.sl.r_70 kernelRun0_A.sl.r_85 kernelRun0_A.sl.r_47 kernelRun0_A.sl.r_62 kernelRun0_A.sl.r_23 kernelRun0_A.sl.r_27 kernelRun0_A.sl.r_16 kernelRun0_A.sl.r_99 kernelRun0_A.sl.r_67 kernelRun0_A.sl.r_52 kernelRun0_A.sl.r_30 kernelRun0_A.sl.r_6 kernelRun0_A.sl.r_3 kernelRun0_A.sl.r_2 kernelRun0_A.sl.r_11 kernelRun0_A.sl.r_88 kernelRun0_A.sl.r_69 kernelRun0_A.sl.r_1 kernelRun0_A.sl.r_94 kernelRun0_A.sl.r_97 kernelRun0_A.sl.r_4 kernelRun0_A.sl.r_19 kernelRun0_A.sl.r kernelRun0_A.sl.r_32 kernelRun0_A.sl.r_91 kernelRun0_A.sl.r_89 kernelRun0_A.sl.r_83 kernelRun0_A.sl.r_84 kernelRun0_A.sl.r_14 kernelRun0_A.sl.r_53 kernelRun0_A.sl.r_57 kernelRun0_A.sl.r_73 kernelRun0_A.sl.r_77 kernelRun0_A.sl.r_64 kernelRun0_A.sl.r_26 kernelRun0_A.sl.r_87 kernelRun0_A.sl.r_44 kernelRun0_A.sl.r_45 kernelRun0_A.sl.r_75 kernelRun0_A.sl.r_31 kernelRun0_A.sl.r_22 kernelRun0_A.sl.r_80 kernelRun0_A.sl.r_65 kernelRun0_A.sl.r_18)
      simp only [hv33, hv51, hv85, hv103, hv137, hv154, View.readAt_eq_ld, harg2.read_unread, harg3.read_unread, harg4.read_unread, harg5.read_unread, harg6.read_unread, harg7.read_unread, harg10.read_unread]
      rfl
    isplitl [H7]
    · iexists _; isplitr; swap; · iexact H7
      ipureintro
      refine put_of_eq hf7 ?_
      sl_unfold_words
      simp only [View.readAt_eq_ld, harg2.read_unread, harg3.read_unread, harg4.read_unread, harg5.read_unread, harg6.read_unread, harg7.read_unread, harg10.read_unread]
      rfl
    iexists _; isplitr; swap
    · iexists _; isplitr; swap; · iexact HS0
      ipureintro; rfl
    ipureintro; rw [hs]
    exact fun z hz => View.read_writes_apply_eq_canon _ _ z _ hz

end Cert.KernelIdeal.Gen

end
-- ==== Proof.RunB.lean ====
module

public import proofs.«01_k».proof.Proof.Outs
public import proofs.«01_k».proof.Proof.Tile
public import proofs.«01_k».proof.Proof.Cover

/-! The kernel body's run, at a grid point that starts no batch. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a grid point that starts no batch: what it leaves in the output block; the second result and the penalty table stay. -/
theorem kernelRun0_B (c : Dev nD) (i : grid0.Coords) (arg2 : Memref sig .tc .vmem S1x4x768x128 .fp8e4m3) (harg2 : arg2.IsWhole) (arg3 : Memref sig .tc .vmem S1x4x768x128 .fp8e4m3) (harg3 : arg3.IsWhole) (arg4 : Memref sig .tc .vmem S1x4x768x128 .fp8e4m3) (harg4 : arg4.IsWhole)
    (arg5 : Memref sig .tc .vmem S1x1x4x768 .f32) (harg5 : arg5.IsWhole) (arg6 : Memref sig .tc .vmem S1x1x4x768 .f32) (harg6 : arg6.IsWhole) (arg7 : Memref sig .tc .vmem S1x1x4x768 .f32) (harg7 : arg7.IsWhole)
    (arg8 : Memref sig .tc .vmem S1x768x512 .bf16) (harg8 : arg8.IsWhole) (arg9 : Memref sig .tc .vmem S2x768 .f32) (harg9 : arg9.IsWhole) (arg10 : Memref sig .tc .vmem S768x768 .f32) (harg10 : arg10.IsWhole) (hc0 : ¬cond0_0 i)
    (x0 x1 x2 : Vec F S1x4x768x128 .fp8e4m3) (x3 x4 x5 : Vec F S1x1x4x768 .f32) (y : Vec F S2x768 .f32) (s : Vec F S768x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y ∗ owns (c : Thread nD τ) arg10 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outB x0 x1 x2 x3 x4 x5 s) ∗ owns (c : Thread nD τ) arg9 fullShare y ∗ owns (c : Thread nD τ) arg10 fullShare s) -∗ K ⟨⟩))
          ⊢ wp frame (wpE (defs₀ (F := F)) Variants.none c none) E (cc0_selective_attention i arg2 harg2 arg3 harg3 arg4 harg4 arg5 harg5 arg6 harg6 arg7 harg7 arg8 harg8 arg9 harg9 arg10 harg10) K := by
    intro E K
    simp only [cc0_selective_attention_eq_skeleton]; unfold cc0_selective_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine out_of_eq (outPieces_cover _ _ _ _ _ _ _) ?_
      sl_unfold_words
      simp only [View.readAt_eq_ld, harg2.read_unread, harg3.read_unread, harg4.read_unread, harg5.read_unread, harg6.read_unread, harg7.read_unread, harg10.read_unread]
      rfl
    isplitl [H7]
    · iexists _; isplitr; swap; · iexact H7
      ipureintro; exact hf7
    iexists _; isplitr; · ipureintro; exact harg10.read_unread _
    iexact HS0

end Cert.KernelIdeal.Gen

end
-- ==== Proof.RunC.lean ====
module

public import proofs.«01_k».proof.Proof.Outs
public import proofs.«01_k».proof.Proof.Tile
public import proofs.«01_k».proof.Proof.Cover

/-! The kernel body's run, at the first grid point of the second batch. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first grid point of the second batch: what it leaves in the output block, in a row of the second result and in the penalty table. -/
theorem kernelRun0_C (c : Dev nD) (i : grid0.Coords) (arg2 : Memref sig .tc .vmem S1x4x768x128 .fp8e4m3) (harg2 : arg2.IsWhole) (arg3 : Memref sig .tc .vmem S1x4x768x128 .fp8e4m3) (harg3 : arg3.IsWhole) (arg4 : Memref sig .tc .vmem S1x4x768x128 .fp8e4m3) (harg4 : arg4.IsWhole)
    (arg5 : Memref sig .tc .vmem S1x1x4x768 .f32) (harg5 : arg5.IsWhole) (arg6 : Memref sig .tc .vmem S1x1x4x768 .f32) (harg6 : arg6.IsWhole) (arg7 : Memref sig .tc .vmem S1x1x4x768 .f32) (harg7 : arg7.IsWhole)
    (arg8 : Memref sig .tc .vmem S1x768x512 .bf16) (harg8 : arg8.IsWhole) (arg9 : Memref sig .tc .vmem S2x768 .f32) (harg9 : arg9.IsWhole) (arg10 : Memref sig .tc .vmem S768x768 .f32) (harg10 : arg10.IsWhole) (hc0 : cond0_0 i) (hc1 : ¬cond0_1 i) (hc2 : cond0_2 i)
    (x0 x1 x2 : Vec F S1x4x768x128 .fp8e4m3) (x3 x4 x5 : Vec F S1x1x4x768 .f32) (y : Vec F S2x768 .f32) (s : Vec F S768x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y ∗ owns (c : Thread nD τ) arg10 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outB x0 x1 x2 x3 x4 x5 (View.canon (tiles x0 x1 x3 x4))) ∗ owns (c : Thread nD τ) arg9 fullShare (VecWindow.put y ![1, 0] ![1, 768] (selRow x0 x1 x3 x4)) ∗ (∃ d, ⌜∀ z, (∃ p ∈ tiles x0 x1 x3 x4, z ∈ p.1.set) → d z = View.canon (tiles x0 x1 x3 x4) z⌝ ∗ owns (c : Thread nD τ) arg10 fullShare d)) -∗ K ⟨⟩))
          ⊢ wp frame (wpE (defs₀ (F := F)) Variants.none c none) E (cc0_selective_attention i arg2 harg2 arg3 harg3 arg4 harg4 arg5 harg5 arg6 harg6 arg7 harg7 arg8 harg8 arg9 harg9 arg10 harg10) K := by
    intro E K
    simp only [cc0_selective_attention_eq_skeleton]; unfold cc0_selective_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1 | sl_exact hc2)
    sl_step
    have hs : kernelRun0_C.sl.HS0_21 c arg2 harg2 arg3 harg3 arg5 harg5 arg6 harg6 x0 x1 x3 x4 = tiles x0 x1 x3 x4 := by
      sl_unfold_words
      simp only [View.readAt_eq_ld, harg2.read_unread, harg3.read_unread, harg4.read_unread, harg5.read_unread, harg6.read_unread, harg7.read_unread, harg10.read_unread]
      rfl
    have hv33 : kernelRun0_C.sl.v33 c arg2 harg2 arg3 harg3 arg5 harg5 arg6 harg6 arg10 x0 x1 x3 x4 = View.ld (View.canon (tiles x0 x1 x3 x4)) (Rect.unit ![0, 0] ![128, 128] inb_S768x768_S128x128_0_0) := by
      unfold kernelRun0_C.sl.v33; rw [hs]; exact View.readCov_eq_canon' _ _ _
    have hv51 : kernelRun0_C.sl.v51 c arg2 harg2 arg3 harg3 arg5 harg5 arg6 harg6 arg10 x0 x1 x3 x4 = View.ld (View.canon (tiles x0 x1 x3 x4)) (Rect.unit ![0, 128] ![256, 128] inb_S768x768_S256x128_0_128) := by
      unfold kernelRun0_C.sl.v51; rw [hs]; exact View.readCov_eq_canon' _ _ _
    have hv85 : kernelRun0_C.sl.v85 c arg2 harg2 arg3 harg3 arg5 harg5 arg6 harg6 arg10 x0 x1 x3 x4 = View.ld (View.canon (tiles x0 x1 x3 x4)) (Rect.unit ![0, 256] ![384, 128] inb_S768x768_S384x128_0_256) := by
      unfold kernelRun0_C.sl.v85; rw [hs]; exact View.readCov_eq_canon' _ _ _
    have hv103 : kernelRun0_C.sl.v103 c arg2 harg2 arg3 harg3 arg5 harg5 arg6 harg6 arg10 x0 x1 x3 x4 = View.ld (View.canon (tiles x0 x1 x3 x4)) (Rect.unit ![0, 384] ![512, 128] inb_S768x768_S512x128_0_384) := by
      unfold kernelRun0_C.sl.v103; rw [hs]; exact View.readCov_eq_canon' _ _ _
    have hv137 : kernelRun0_C.sl.v137 c arg2 harg2 arg3 harg3 arg5 harg5 arg6 harg6 arg10 x0 x1 x3 x4 = View.ld (View.canon (tiles x0 x1 x3 x4)) (Rect.unit ![0, 512] ![640, 128] inb_S768x768_S640x128_0_512) := by
      unfold kernelRun0_C.sl.v137; rw [hs]; exact View.readCov_eq_canon' _ _ _
    have hv154 : kernelRun0_C.sl.v154 c arg2 harg2 arg3 harg3 arg5 harg5 arg6 harg6 arg10 x0 x1 x3 x4 = View.ld (View.canon (tiles x0 x1 x3 x4)) (Rect.unit ![0, 640] ![768, 128] inb_S768x768_S768x128_0_640) := by
      unfold kernelRun0_C.sl.v154; rw [hs]; exact View.readCov_eq_canon' _ _ _
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine out_of_eq (outPieces_cover _ _ _ _ _ _ _) ?_
      iterate 6 (try delta kernelRun0_C.sl.r_86 kernelRun0_C.sl.r_55 kernelRun0_C.sl.r_58 kernelRun0_C.sl.r_46 kernelRun0_C.sl.r_74 kernelRun0_C.sl.r_56 kernelRun0_C.sl.r_12 kernelRun0_C.sl.r_51 kernelRun0_C.sl.r_39 kernelRun0_C.sl.r_35 kernelRun0_C.sl.r_40 kernelRun0_C.sl.r_71 kernelRun0_C.sl.r_8 kernelRun0_C.sl.r_66 kernelRun0_C.sl.r_28 kernelRun0_C.sl.r_7 kernelRun0_C.sl.r_49 kernelRun0_C.sl.r_60 kernelRun0_C.sl.r_43 kernelRun0_C.sl.r_41 kernelRun0_C.sl.cst_110 kernelRun0_C.sl.r_90 kernelRun0_C.sl.r_78 kernelRun0_C.sl.r_13 kernelRun0_C.sl.r_10 kernelRun0_C.sl.r_95 kernelRun0_C.sl.r_48 kernelRun0_C.sl.r_15 kernelRun0_C.sl.r_17 kernelRun0_C.sl.r_82 kernelRun0_C.sl.r_9 kernelRun0_C.sl.r_33 kernelRun0_C.sl.r_68 kernelRun0_C.sl.r_36 kernelRun0_C.sl.r_42 kernelRun0_C.sl.r_29 kernelRun0_C.sl.r_20 kernelRun0_C.sl.r_25 kernelRun0_C.sl.r_21 kernelRun0_C.sl.r_98 kernelRun0_C.sl.r_92 kernelRun0_C.sl.r_76 kernelRun0_C.sl.r_93 kernelRun0_C.sl.r_96 kernelRun0_C.sl.r_63 kernelRun0_C.sl.r_72 kernelRun0_C.sl.r_37 kernelRun0_C.sl.r_61 kernelRun0_C.sl.r_79 kernelRun0_C.sl.r_50 kernelRun0_C.sl.r_5 kernelRun0_C.sl.r_81 kernelRun0_C.sl.r_24 kernelRun0_C.sl.r_54 kernelRun0_C.sl.r_59 kernelRun0_C.sl.r_34 kernelRun0_C.sl.r_38 kernelRun0_C.sl.r_70 kernelRun0_C.sl.r_85 kernelRun0_C.sl.r_47 kernelRun0_C.sl.r_62 kernelRun0_C.sl.r_23 kernelRun0_C.sl.r_27 kernelRun0_C.sl.r_16 kernelRun0_C.sl.r_99 kernelRun0_C.sl.r_67 kernelRun0_C.sl.r_52 kernelRun0_C.sl.r_30 kernelRun0_C.sl.r_6 kernelRun0_C.sl.r_3 kernelRun0_C.sl.r_2 kernelRun0_C.sl.r_11 kernelRun0_C.sl.r_88 kernelRun0_C.sl.r_69 kernelRun0_C.sl.r_1 kernelRun0_C.sl.r_94 kernelRun0_C.sl.r_97 kernelRun0_C.sl.r_4 kernelRun0_C.sl.r_19 kernelRun0_C.sl.r kernelRun0_C.sl.r_32 kernelRun0_C.sl.r_91 kernelRun0_C.sl.r_89 kernelRun0_C.sl.r_83 kernelRun0_C.sl.r_84 kernelRun0_C.sl.r_14 kernelRun0_C.sl.r_53 kernelRun0_C.sl.r_57 kernelRun0_C.sl.r_73 kernelRun0_C.sl.r_77 kernelRun0_C.sl.r_64 kernelRun0_C.sl.r_26 kernelRun0_C.sl.r_87 kernelRun0_C.sl.r_44 kernelRun0_C.sl.r_45 kernelRun0_C.sl.r_75 kernelRun0_C.sl.r_31 kernelRun0_C.sl.r_22 kernelRun0_C.sl.r_80 kernelRun0_C.sl.r_65 kernelRun0_C.sl.r_18)
      simp only [hv33, hv51, hv85, hv103, hv137, hv154, View.readAt_eq_ld, harg2.read_unread, harg3.read_unread, harg4.read_unread, harg5.read_unread, harg6.read_unread, harg7.read_unread, harg10.read_unread]
      rfl
    isplitl [H7]
    · iexists _; isplitr; swap; · iexact H7
      ipureintro
      refine put_of_eq hf7 ?_
      sl_unfold_words
      simp only [View.readAt_eq_ld, harg2.read_unread, harg3.read_unread, harg4.read_unread, harg5.read_unread, harg6.read_unread, harg7.read_unread, harg10.read_unread]
      rfl
    iexists _; isplitr; swap
    · iexists _; isplitr; swap; · iexact HS0
      ipureintro; rfl
    ipureintro; rw [hs]
    exact fun z hz => View.read_writes_apply_eq_canon _ _ z _ hz

end Cert.KernelIdeal.Gen

end
-- ==== Proof.Carry.lean ====
module

public import proofs.«01_k».proof.Proof.RunA
public import proofs.«01_k».proof.Proof.RunB
public import proofs.«01_k».proof.Proof.RunC
public import Idealize.ShloMosaic.Lib.Claim

/-! The run of the idealized kernel over its whole grid. What is carried from point to point is stated here: the penalty
table in the kernel's scratch buffer, computed at the first point of each batch and read at the seven others, and the rows of
the second result, one written at the first point of each batch. The output block of each point is stated from the
table it was computed with. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What is carried -/

/-- The tiles of the penalty table that the first point `t` of a batch stores, from the blocks staged there. -/
def tilesAt (c : Dev nD) (t : Fin cfg0.N) : List (View.Piece (Elt F) S768x768 .f32) :=
  tiles (iblk m c 0 t) (iblk m c 1 t) (iblk m c 3 t) (iblk m c 4 t)

/-- The table `s` holds, wherever the tiles of the batch that starts at point `t` lie, what they hold. -/
def Agrees (c : Dev nD) (t : Fin cfg0.N) (s : Vec F S768x768 .f32) : Prop :=
  ∀ z, (∃ p ∈ tilesAt m c t, z ∈ p.1.set) → s z = View.canon (tilesAt m c t) z

/-- Before point `n` the table holds the tiles of the batch under way, if one is. -/
def Kept (c : Dev nD) (n : ℕ) (s : Vec F S768x768 .f32) : Prop :=
  n % 8 ≠ 0 → ∀ t₀ : Fin cfg0.N, t₀.val = n - n % 8 → Agrees m c t₀ s

/-- What the body leaves in the output block at point `t`: the block computed with a table that holds the batch's tiles. -/
def LeftOut (c : Dev nD) (t : Fin cfg0.N) (X : Vec F S1x768x512 .bf16) : Prop :=
  ∃ s : Vec F S768x768 .f32, (∀ t₀ : Fin cfg0.N, t₀.val = t.val - t.val % 8 → Agrees m c t₀ s)
    ∧ X = outB (iblk m c 0 t) (iblk m c 1 t) (iblk m c 2 t) (iblk m c 3 t) (iblk m c 4 t) (iblk m c 5 t) s

/-- What the body makes of the second result's block `Y` at point `t`: the first point of a batch stores the batch's row,
    the others leave the block. -/
def LeftSel (c : Dev nD) (t : Fin cfg0.N) (Y X : Vec F S2x768 .f32) : Prop :=
  (t.val = 0 → X = VecWindow.put Y ![0, 0] ![1, 768] (selRow (iblk m c 0 t) (iblk m c 1 t) (iblk m c 3 t) (iblk m c 4 t)))
  ∧ (t.val = 8 → X = VecWindow.put Y ![1, 0] ![1, 768] (selRow (iblk m c 0 t) (iblk m c 1 t) (iblk m c 3 t) (iblk m c 4 t)))
  ∧ (t.val % 8 ≠ 0 → X = Y)

/-- The proof data of the one pipeline on core `c`: the arrays as the region finds them; after the body each input's
    buffer at its block, the outputs' as above; between points the penalty table as kept, and the generator register. -/
def rdat (c : Dev nD) : RDat τ (Elt F) Unit ℕ (UR sig nD τ) ℕ cfg0 c where
  A w := V m c (Pipeline.arrRef spec0 w)
  after w t Y X := match w with
    | ⟨0, _⟩ => X = iblk m c 0 t
    | ⟨1, _⟩ => X = iblk m c 1 t
    | ⟨2, _⟩ => X = iblk m c 2 t
    | ⟨3, _⟩ => X = iblk m c 3 t
    | ⟨4, _⟩ => X = iblk m c 4 t
    | ⟨5, _⟩ => X = iblk m c 5 t
    | ⟨6, _⟩ => LeftOut m c t X
    | ⟨7, _⟩ => LeftSel m c t Y X
  Φ t := iprop((∃ s, ⌜Kept m c t.val s⌝ ∗ owns (c : Thread nD τ) scM0_0 fullShare s) ∗ (∃ r, prngReg c r))
  q _ := fullShare
  owed _ := 0

theorem rA_eq (c : Dev nD) (w : Fin cfg0.W) : (rdat m c).A w = V m c (Pipeline.arrRef spec0 w) := by
  dsimp only [rdat]

/-- Input 0's current staging buffer holds its block at every point. -/
theorem finds0_0 (c : Dev nD) (t : Fin cfg0.N) (Y) (h : (rdat m c).Finds 0 t Y) : Y = iblk m c 0 t := by
  obtain ⟨d, rfl⟩ := ((rdat m c).finds_of_fetch (fetch0_0 t) Y).mp h
  unfold RDat.fetched RDat.blockOf iblk; rw [rA_eq]; try rfl
/-- Input 1's current staging buffer holds its block at every point. -/
theorem finds0_1 (c : Dev nD) (t : Fin cfg0.N) (Y) (h : (rdat m c).Finds 1 t Y) : Y = iblk m c 1 t := by
  obtain ⟨d, rfl⟩ := ((rdat m c).finds_of_fetch (fetch0_1 t) Y).mp h
  unfold RDat.fetched RDat.blockOf iblk; rw [rA_eq]; try rfl
/-- Input 2's current staging buffer holds its block at every point. -/
theorem finds0_2 (c : Dev nD) (t : Fin cfg0.N) (Y) (h : (rdat m c).Finds 2 t Y) : Y = iblk m c 2 t := by
  obtain ⟨d, rfl⟩ := ((rdat m c).finds_of_fetch (fetch0_2 t) Y).mp h
  unfold RDat.fetched RDat.blockOf iblk; rw [rA_eq]; try rfl
/-- Input 3's current staging buffer holds its block at every point. -/
theorem finds0_3 (c : Dev nD) (t : Fin cfg0.N) (Y) (h : (rdat m c).Finds 3 t Y) : Y = iblk m c 3 t := by
  obtain ⟨d, rfl⟩ := ((rdat m c).finds_of_fetch (fetch0_3 t) Y).mp h
  unfold RDat.fetched RDat.blockOf iblk; rw [rA_eq]; try rfl
/-- Input 4's current staging buffer holds its block at every point. -/
theorem finds0_4 (c : Dev nD) (t : Fin cfg0.N) (Y) (h : (rdat m c).Finds 4 t Y) : Y = iblk m c 4 t := by
  obtain ⟨d, rfl⟩ := ((rdat m c).finds_of_fetch (fetch0_4 t) Y).mp h
  unfold RDat.fetched RDat.blockOf iblk; rw [rA_eq]; try rfl
/-- Input 5's current staging buffer holds its block at every point. -/
theorem finds0_5 (c : Dev nD) (t : Fin cfg0.N) (Y) (h : (rdat m c).Finds 5 t Y) : Y = iblk m c 5 t := by
  obtain ⟨d, rfl⟩ := ((rdat m c).finds_of_fetch (fetch0_5 t) Y).mp h
  unfold RDat.fetched RDat.blockOf iblk; rw [rA_eq]; try rfl

/-! ## The body obligation, at a generic point -/

/-- What the body is called with at point `t`, the windows one by one, -/
def bodyPre (c : Dev nD) (t : Fin cfg0.N) (y6 : Vec F S1x768x512 .bf16) (y7 : Vec F S2x768 .f32) : sProp 𝕄 :=
  iprop((rdat m c).Φ t.castSucc ∗ (rdat m c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare y6
    ∗ owns (c : Thread nD τ) (ms0_7 t) fullShare y7)

/-- and what it returns. -/
def bodyPost (c : Dev nD) (t : Fin cfg0.N) (y7 : Vec F S2x768 .f32) : sProp 𝕄 :=
  iprop((rdat m c).Φ t.succ ∗ (rdat m c).owesAt () t.succ
    ∗ (∃ X, ⌜X = iblk m c 0 t⌝ ∗ owns (c : Thread nD τ) (ms0_0 t) fullShare X)
    ∗ (∃ X, ⌜X = iblk m c 1 t⌝ ∗ owns (c : Thread nD τ) (ms0_1 t) fullShare X)
    ∗ (∃ X, ⌜X = iblk m c 2 t⌝ ∗ owns (c : Thread nD τ) (ms0_2 t) fullShare X)
    ∗ (∃ X, ⌜X = iblk m c 3 t⌝ ∗ owns (c : Thread nD τ) (ms0_3 t) fullShare X)
    ∗ (∃ X, ⌜X = iblk m c 4 t⌝ ∗ owns (c : Thread nD τ) (ms0_4 t) fullShare X)
    ∗ (∃ X, ⌜X = iblk m c 5 t⌝ ∗ owns (c : Thread nD τ) (ms0_5 t) fullShare X)
    ∗ (∃ X, ⌜LeftOut m c t X⌝ ∗ owns (c : Thread nD τ) (ms0_6 t) fullShare X)
    ∗ (∃ X, ⌜LeftSel m c t y7 X⌝ ∗ owns (c : Thread nD τ) (ms0_7 t) fullShare X))

set_option maxHeartbeats 2400000 in
/-- The body at any point: the first of a batch stores the table's tiles and a row of the second result, the others
    read the table as it was left. -/
theorem sound_body (c : Dev nD) (t : Fin cfg0.N) (y6 : Vec F S1x768x512 .bf16) (y7 : Vec F S2x768 .f32) :
    bodyPre m c t y6 y7 ⊢ wp frame (wpE (defs₀ (F := F)) Variants.none c none) Set.univ (bodyAt0 t) (fun _ => bodyPost m c t y7) := by
  unfold bodyPre bodyPost bodyAt0
  rw [show (rdat m c).owesAt () t.succ = (rdat m c).owesAt () t.castSucc from rfl]
  rw [show (rdat m c).Φ t.castSucc = iprop((∃ s, ⌜Kept m c t.val s⌝ ∗ owns (c : Thread nD τ) scM0_0 fullShare s) ∗ (∃ r, prngReg c r)) from rfl,
    show (rdat m c).Φ t.succ = iprop((∃ s, ⌜Kept m c (t.val + 1) s⌝ ∗ owns (c : Thread nD τ) scM0_0 fullShare s) ∗ (∃ r, prngReg c r)) from rfl]
  have hN : t.val < 16 := lt_of_lt_of_eq t.isLt (show cfg0.N = 16 from N_0)
  by_cases h0 : t.val % 8 = 0
  · by_cases h1 : t.val < 8
    · have h2 : ¬ 8 ≤ t.val := by omega
      iintro ⟨⟨⟨%s, %hs, HS0⟩, Hg⟩, Ho, H0, H1, H2, H3, H4, H5, H6, H7⟩
      iapply ((kernelRun0_A c (grid0.coords t) _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) y7 s) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, ⟨%d, %hd, HS0⟩⟩
      isplitl [HS0 Hg]
      · isplitl [HS0]
        · iexists _; isplitr; swap; · iexact HS0
          ipureintro
          intro _ t₀ ht₀
          obtain rfl : t₀ = t := Fin.ext (by omega)
          exact hd
        iexact Hg
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro
        refine ⟨_, fun t₀ ht₀ => ?_, rfl⟩
        obtain rfl : t₀ = t := Fin.ext (by omega)
        exact fun z _ => rfl
      iexists _; isplitr; swap; · iexact H7
      ipureintro
      exact ⟨fun _ => rfl, fun h => absurd h (by omega), fun h => absurd h0 h⟩
    · have h2 : 8 ≤ t.val := by omega
      iintro ⟨⟨⟨%s, %hs, HS0⟩, Hg⟩, Ho, H0, H1, H2, H3, H4, H5, H6, H7⟩
      iapply ((kernelRun0_C c (grid0.coords t) _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t) (iblk m c 5 t) y7 s) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, H6, H7, ⟨%d, %hd, HS0⟩⟩
      isplitl [HS0 Hg]
      · isplitl [HS0]
        · iexists _; isplitr; swap; · iexact HS0
          ipureintro
          intro _ t₀ ht₀
          obtain rfl : t₀ = t := Fin.ext (by omega)
          exact hd
        iexact Hg
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro
        refine ⟨_, fun t₀ ht₀ => ?_, rfl⟩
        obtain rfl : t₀ = t := Fin.ext (by omega)
        exact fun z _ => rfl
      iexists _; isplitr; swap; · iexact H7
      ipureintro
      exact ⟨fun h => absurd h (by omega), fun _ => rfl, fun h => absurd h0 h⟩
  · iintro ⟨⟨⟨%s, %hs, HS0⟩, Hg⟩, Ho, H0, H1, H2, H3, H4, H5, H6, H7⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) y7 s) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, H6, H7, HS0⟩
    isplitl [HS0 Hg]
    · isplitl [HS0]
      · iexists _; isplitr; swap; · iexact HS0
        ipureintro
        exact fun _ t₀ ht₀ => hs h0 t₀ (by omega)
      iexact Hg
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro
      exact ⟨s, fun t₀ ht₀ => hs h0 t₀ ht₀, rfl⟩
    iexists _; isplitr; swap; · iexact H7
    ipureintro
    exact ⟨fun h => absurd h (by omega), fun h => absurd h (by omega), fun _ => rfl⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y hY => by
  rw [bigSep_W0, bigSep_W0, defs₀_row]
  rw [finds0_0 m c t _ (hY 0), finds0_1 m c t _ (hY 1), finds0_2 m c t _ (hY 2), finds0_3 m c t _ (hY 3),
    finds0_4 m c t _ (hY 4), finds0_5 m c t _ (hY 5)]
  exact triple_restated (sound_body m c t (Y 6) (Y 7)) rfl .rfl fun _ => .rfl

/-! ## The run and the frame -/

set_option backward.isDefEq.respectTransparency.types false in
/-- The launch: every array ends at contents the proof data allow, every other buffer as the region found it, and every
    semaphore counter at zero. -/
theorem run_main_quiescent : θ_run defs (onTc (τ := τ) (main (F := F))) (s₀ m ρ)
    (fun r => (RDat.FramePost (cfgs 0) (rdat m) (V m)) r ∧ r.2.sem = fun _ => 0) :=
  RDat.θ_run_frame_track (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := rA_eq m)
    (hin := fun c => by
      rw [PhiA0_eq]
      show _ ⊢ iprop((∃ s, ⌜Kept m c 0 s⌝ ∗ owns (c : Thread nD τ) scM0_0 fullShare s) ∗ (∃ r, prngReg c r))
      iintro ⟨⟨%d, H⟩, Hg⟩
      isplitl [H]
      · iexists d; isplitr; swap; · iexact H
        ipureintro; exact fun h => absurd rfl h
      iexact Hg)
    (hout := fun c => by
      rw [PhiA0_eq]
      show iprop((∃ s, ⌜Kept m c _ s⌝ ∗ owns (c : Thread nD τ) scM0_0 fullShare s) ∗ (∃ r, prngReg c r)) ⊢ _
      iintro ⟨⟨%d, -, H⟩, Hg⟩
      isplitl [H]
      · iexists d; iexact H
      iexact Hg)

/-- The arguments end unchanged, from the launch's post. -/
theorem args_of (r : PUnit × MemSt nD τ sig (Elt F)) (h : RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩

/-- The frame claim of the idealized kernel, at any instance of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of m r h.1, h.2⟩) (run_main_quiescent m ρ)

end Cert.KernelIdeal.Gen

end
-- ==== Proof.Blocks.lean ====
module

public import proofs.«01_k».proof.Proof.Carry
public import Idealize.ShloMosaic.Lib.Pointwise
public import Idealize.ShloMosaic.Lib.Pipeline.ValueKit

/-! The blocks the kernel reads, entry by entry, as entries of the arguments. -/

@[expose] public section

set_option maxRecDepth 16384

noncomputable section

namespace Cert.KernelIdeal.Gen

open Idealize.ShloMosaic Idealize.ShloMosaic.TcCoe Idealize.ShloMosaic.StableHlo

variable (m : (ℓ : Loc nD τ sig) → Buf (Elt Ideal) ℓ) (c : Dev nD)

theorem V_main_v2 : (V m c main_v2 : Vec Ideal S2x32x768x128 .fp8e4m3) =
    transpose S2x32x768x128 [0, 2, 1, 3] (bitcastToFloat (F := Ideal) .fp8e4m3 (m ((c.tc : Thread nD τ).loc main_arg0) : Vec Ideal S2x768x32x128 .i8))
      transposes_S2x768x32x128_S2x32x768x128_0_2_1_3 := by
  show after hostOps0 (fun b => m (c, b)) (Proc.devRef .tc main_v2) = _
  simp only [hostOps0]
  after_results_simp
  all_goals rfl

theorem V_main_v3 : (V m c main_v3 : Vec Ideal S2x32x768x128 .fp8e4m3) =
    transpose S2x32x768x128 [0, 2, 1, 3] (bitcastToFloat (F := Ideal) .fp8e4m3 (m ((c.tc : Thread nD τ).loc main_arg2) : Vec Ideal S2x768x32x128 .i8))
      transposes_S2x768x32x128_S2x32x768x128_0_2_1_3 := by
  show after hostOps0 (fun b => m (c, b)) (Proc.devRef .tc main_v3) = _
  simp only [hostOps0]
  after_results_simp
  all_goals rfl

theorem V_main_v4 : (V m c main_v4 : Vec Ideal S2x32x768x128 .fp8e4m3) =
    transpose S2x32x768x128 [0, 2, 1, 3] (m ((c.tc : Thread nD τ).loc main_arg4) : Vec Ideal S2x768x32x128 .fp8e4m3)
      transposes_S2x768x32x128_S2x32x768x128_0_2_1_3 := by
  show after hostOps0 (fun b => m (c, b)) (Proc.devRef .tc main_v4) = _
  simp only [hostOps0]
  after_results_simp
  all_goals rfl

theorem V_main_v6 : (V m c main_v6 : Vec Ideal S2x8x4x768 .f32) =
    shapeCast S2x8x4x768 (transpose S2x32x768 [0, 2, 1] (m ((c.tc : Thread nD τ).loc main_arg1) : Vec Ideal S2x768x32 .f32)
      transposes_S2x768x32_S2x32x768_0_2_1) shapeCasts_S2x32x768_S2x8x4x768 := by
  show after hostOps0 (fun b => m (c, b)) (Proc.devRef .tc main_v6) = _
  simp only [hostOps0]
  after_results_simp
  all_goals rfl

theorem V_main_v8 : (V m c main_v8 : Vec Ideal S2x8x4x768 .f32) =
    shapeCast S2x8x4x768 (transpose S2x32x768 [0, 2, 1] (m ((c.tc : Thread nD τ).loc main_arg3) : Vec Ideal S2x768x32 .f32)
      transposes_S2x768x32_S2x32x768_0_2_1) shapeCasts_S2x32x768_S2x8x4x768 := by
  show after hostOps0 (fun b => m (c, b)) (Proc.devRef .tc main_v8) = _
  simp only [hostOps0]
  after_results_simp
  all_goals rfl

theorem V_main_v10 : (V m c main_v10 : Vec Ideal S2x8x4x768 .f32) =
    shapeCast S2x8x4x768 (transpose S2x32x768 [0, 2, 1] (m ((c.tc : Thread nD τ).loc main_arg5) : Vec Ideal S2x768x32 .f32)
      transposes_S2x768x32_S2x32x768_0_2_1) shapeCasts_S2x32x768_S2x8x4x768 := by
  show after hostOps0 (fun b => m (c, b)) (Proc.devRef .tc main_v10) = _
  simp only [hostOps0]
  after_results_simp
  all_goals rfl

/-- The batch of a point. -/
def bt (t : Fin cfg0.N) : Fin 2 := ⟨t.val / 8, by have : t.val < 16 := t.isLt; omega⟩

/-- The head numbered `h` within the group of a point. -/
def hd (t : Fin cfg0.N) (h : Fin 4) : Fin 32 := ⟨t.val % 8 * 4 + h.val, by omega⟩

theorem idx0 : ∀ t : Fin cfg0.N, win0_0.index t = ![t.val / 8, t.val % 8, 0, 0] ∧ win0_1.index t = ![t.val / 8, t.val % 8, 0, 0]
    ∧ win0_2.index t = ![t.val / 8, t.val % 8, 0, 0] ∧ win0_3.index t = ![t.val / 8, t.val % 8, 0, 0]
    ∧ win0_4.index t = ![t.val / 8, t.val % 8, 0, 0] ∧ win0_5.index t = ![t.val / 8, t.val % 8, 0, 0]
    ∧ win0_6.index t = ![t.val / 8, 0, t.val % 8] ∧ win0_7.index t = ![0, 0] := by
  decide +kernel

theorem iblk0_apply (t : Fin cfg0.N) (h : Fin 4) (k : Fin 768) (d : Fin 128) :
    (iblk m c 0 t : Vec Ideal S1x4x768x128 .fp8e4m3) (ix4 0 h k d) =
      Ideal.ofBits .fp8e4m3 ((m ((c.tc : Thread nD τ).loc main_arg0) : Vec Ideal S2x768x32x128 .i8) (ix4 (bt t) k (hd t h) d)) := by
  have e : (iblk m c 0 t : Vec Ideal S1x4x768x128 .fp8e4m3) (ix4 0 h k d) =
      (V m c main_v2 : Vec Ideal S2x32x768x128 .fp8e4m3) (ix4 (bt t) (hd t h) k d) := by
    blk_ext [iblk, (idx0 t).1, bt, hd]
  rw [e, V_main_v2]
  pointwise

theorem iblk1_apply (t : Fin cfg0.N) (h : Fin 4) (k : Fin 768) (d : Fin 128) :
    (iblk m c 1 t : Vec Ideal S1x4x768x128 .fp8e4m3) (ix4 0 h k d) =
      Ideal.ofBits .fp8e4m3 ((m ((c.tc : Thread nD τ).loc main_arg2) : Vec Ideal S2x768x32x128 .i8) (ix4 (bt t) k (hd t h) d)) := by
  have e : (iblk m c 1 t : Vec Ideal S1x4x768x128 .fp8e4m3) (ix4 0 h k d) =
      (V m c main_v3 : Vec Ideal S2x32x768x128 .fp8e4m3) (ix4 (bt t) (hd t h) k d) := by
    blk_ext [iblk, (idx0 t).2.1, bt, hd]
  rw [e, V_main_v3]
  pointwise

theorem iblk2_apply (t : Fin cfg0.N) (h : Fin 4) (k : Fin 768) (d : Fin 128) :
    (iblk m c 2 t : Vec Ideal S1x4x768x128 .fp8e4m3) (ix4 0 h k d) =
      (m ((c.tc : Thread nD τ).loc main_arg4) : Vec Ideal S2x768x32x128 .fp8e4m3) (ix4 (bt t) k (hd t h) d) := by
  have e : (iblk m c 2 t : Vec Ideal S1x4x768x128 .fp8e4m3) (ix4 0 h k d) =
      (V m c main_v4 : Vec Ideal S2x32x768x128 .fp8e4m3) (ix4 (bt t) (hd t h) k d) := by
    blk_ext [iblk, (idx0 t).2.2.1, bt, hd]
  rw [e, V_main_v4]
  pointwise

theorem iblk3_apply (t : Fin cfg0.N) (h : Fin 4) (k : Fin 768) :
    (iblk m c 3 t : Vec Ideal S1x1x4x768 .f32) (ix4 0 0 h k) =
      (m ((c.tc : Thread nD τ).loc main_arg1) : Vec Ideal S2x768x32 .f32) (ix3 (bt t) k (hd t h)) := by
  have e : (iblk m c 3 t : Vec Ideal S1x1x4x768 .f32) (ix4 0 0 h k) =
      (V m c main_v6 : Vec Ideal S2x8x4x768 .f32) (ix4 (bt t) ⟨t.val % 8, by omega⟩ h k) := by
    blk_ext [iblk, (idx0 t).2.2.2.1, bt, hd]
  rw [e, V_main_v6]
  pointwise
  rfl

theorem iblk4_apply (t : Fin cfg0.N) (h : Fin 4) (k : Fin 768) :
    (iblk m c 4 t : Vec Ideal S1x1x4x768 .f32) (ix4 0 0 h k) =
      (m ((c.tc : Thread nD τ).loc main_arg3) : Vec Ideal S2x768x32 .f32) (ix3 (bt t) k (hd t h)) := by
  have e : (iblk m c 4 t : Vec Ideal S1x1x4x768 .f32) (ix4 0 0 h k) =
      (V m c main_v8 : Vec Ideal S2x8x4x768 .f32) (ix4 (bt t) ⟨t.val % 8, by omega⟩ h k) := by
    blk_ext [iblk, (idx0 t).2.2.2.2.1, bt, hd]
  rw [e, V_main_v8]
  pointwise
  rfl

theorem iblk5_apply (t : Fin cfg0.N) (h : Fin 4) (k : Fin 768) :
    (iblk m c 5 t : Vec Ideal S1x1x4x768 .f32) (ix4 0 0 h k) =
      (m ((c.tc : Thread nD τ).loc main_arg5) : Vec Ideal S2x768x32 .f32) (ix3 (bt t) k (hd t h)) := by
  have e : (iblk m c 5 t : Vec Ideal S1x1x4x768 .f32) (ix4 0 0 h k) =
      (V m c main_v10 : Vec Ideal S2x8x4x768 .f32) (ix4 (bt t) ⟨t.val % 8, by omega⟩ h k) := by
    blk_ext [iblk, (idx0 t).2.2.2.2.2.1, bt, hd]
  rw [e, V_main_v10]
  pointwise
  rfl

end Cert.KernelIdeal.Gen

end
-- ==== Proof.TileCanon.lean ====
module

public import proofs.«01_k».proof.Proof.TileRead
public import Idealize.ShloMosaic.Lib.Pipeline.Value
public import Idealize.ShloMosaic.Lib.Pipeline.ValueKit.Tiles

/-! The penalty table the tiles make up, entry by entry. -/

@[expose] public section

set_option maxRecDepth 16384

noncomputable section

namespace Cert.KernelIdeal.Gen

open Idealize.ShloMosaic Idealize.ShloMosaic.TcCoe

variable {x0 x1 : Vec Ideal S1x4x768x128 .fp8e4m3} {x3 x4 : Vec Ideal S1x1x4x768 .f32}

section
variable (x0 x1 x3 x4)

/-- Every store of the table is a tile on or above the diagonal. -/
theorem tiles_mem (p : View.Piece (Elt Ideal) S768x768 .f32) (hp : p ∈ tiles x0 x1 x3 x4) :
    ∃ (a : Fin 6) (n : ℕ), a.val + n < 6 ∧ p = tilePiece x0 x1 x3 x4 a n := by
  unfold tiles at hp
  simp only [List.mem_cons, List.not_mem_nil, or_false] at hp
  rcases hp with h | h | h | h | h | h | h | h | h | h | h | h | h | h | h | h | h | h | h | h | h <;>
    exact ⟨_, _, by decide, h⟩

/-- Every tile on or above the diagonal is stored. -/
theorem mem_tiles (a : Fin 6) (n : ℕ) (h : a.val + n < 6) : tilePiece x0 x1 x3 x4 a n ∈ tiles x0 x1 x3 x4 := by
  have key : ∀ (a : Fin 6) (n : Fin 6), a.val + n.val < 6 →
      (a, n.val) ∈ [((5 : Fin 6), 0), (4, 1), (4, 0), (3, 2), (3, 1), (3, 0), (2, 3), (2, 2), (2, 1), (2, 0),
        (1, 4), (1, 3), (1, 2), (1, 1), (1, 0), (0, 5), (0, 4), (0, 3), (0, 2), (0, 1), (0, 0)] := by decide
  exact List.mem_map_of_mem (f := fun p : Fin 6 × ℕ => tilePiece x0 x1 x3 x4 p.1 p.2) (key a ⟨n, by omega⟩ h)

/-- An entry whose tile is on or above the diagonal lies in a stored tile. -/
theorem tiles_cover (k q : Fin 768) (h : k.val / 128 ≤ q.val / 128) :
    ∃ p ∈ tiles x0 x1 x3 x4, (ix2 k q : S768x768.Idx) ∈ p.1.set := by
  refine ⟨_, mem_tiles x0 x1 x3 x4 ⟨k.val / 128, by omega⟩ (q.val / 128 - k.val / 128) (by show k.val / 128 + _ < 6; omega), ?_⟩
  refine (Rect.mem_set_unit (s := S768x768) (inb := tile_inb _ _)).mpr fun i => ?_
  have hb := ofNat6 ⟨k.val / 128, by omega⟩ (q.val / 128 - k.val / 128) (by show k.val / 128 + _ < 6; omega)
  have hb' : (Fin.ofNat 6 (k.val / 128 + (q.val / 128 - k.val / 128))).val = k.val / 128 + (q.val / 128 - k.val / 128) := hb
  match i with
  | ⟨0, _⟩ =>
    show 128 * (k.val / 128) ≤ k.val ∧ k.val < 128 * (k.val / 128) + 128
    omega
  | ⟨1, _⟩ =>
    show 128 * (Fin.ofNat 6 (k.val / 128 + (q.val / 128 - k.val / 128))).val ≤ q.val ∧
      q.val < 128 * (Fin.ofNat 6 (k.val / 128 + (q.val / 128 - k.val / 128))).val + 128
    rw [hb']
    omega

end

variable (L : Fin 768 → Fin 768 → ℝ) (hL : ∀ k q, logit0 x0 x1 x3 x4 k q = L k q)

/-- The penalty of key `k` and query `q`, in base two. -/
def penVal (k q : Fin 768) : EReal :=
  if k.val ≤ q.val then (((∑ j ∈ Finset.range q.val, selR L k j) * (Real.log 2)⁻¹ : ℝ) : EReal) else ⊤

/-- The same as a function of the table's index. -/
def penFun (z : S768x768.Idx) : EReal := penVal L (z 0) (z 1)

include hL in
theorem tiles_apply (k q : Fin 768) (h : k.val / 128 ≤ q.val / 128) :
    View.canon (tiles x0 x1 x3 x4) (ix2 k q : S768x768.Idx) = penVal L k q := by
  refine View.canon_apply_of_pieces (Val := Elt Ideal) (e := .f32) (penFun L) _ ?_ _ (tiles_cover x0 x1 x3 x4 k q h)
  intro p hp x
  obtain ⟨a, n, han, rfl⟩ := tiles_mem x0 x1 x3 x4 p hp
  have e0 := Rect.idx_unit_val (s := S768x768) ![128 * a.val, 128 * (Fin.ofNat 6 (a.val + n)).val] ![128, 128] (tile_inb _ _) x 0
  have e1 := Rect.idx_unit_val (s := S768x768) ![128 * a.val, 128 * (Fin.ofNat 6 (a.val + n)).val] ![128, 128] (tile_inb _ _) x 1
  have hx : x = (ix2 (n0 := 128) (n1 := 128) (x 0) (x 1)) := eq_ix2 (n0 := 128) (n1 := 128) x
  refine (congrArg (penT x0 x1 x3 x4 a n) hx).trans ((penT_real L hL a n han (x 0) (x 1)).trans ?_)
  unfold penFun penVal
  have f0 : at6 a (x 0) = (tilePiece x0 x1 x3 x4 a n).1.emb x 0 := Fin.ext e0.symm
  have f1 : 128 * (a.val + n) + (x 1).val = ((tilePiece x0 x1 x3 x4 a n).1.emb x 1).val :=
    (congrArg (fun m => 128 * m + (x 1).val) (ofNat6 a n han).symm).trans e1.symm
  exact (congrArg₂ (fun (k : Fin 768) (m : ℕ) => if k.val ≤ m then
    (((∑ j ∈ Finset.range m, selR L k j) * (Real.log 2)⁻¹ : ℝ) : EReal) else ⊤) f0 f1)

end Cert.KernelIdeal.Gen

end
-- ==== Proof.HeadSpec.lean ====
module

public import proofs.«01_k».proof.Proof.Outs
public import Idealize.ShloMosaic.Lib.Pointwise

/-! One entry of the attention the kernel stores: key `k`, query `q`, scores in base two, a softmax over the first `n`
    keys. -/

@[expose] public section

set_option maxRecDepth 16384

noncomputable section

namespace Cert.KernelIdeal.Gen

open Idealize.ShloMosaic Idealize.ShloMosaic.TcCoe

/-- The score the kernel exponentiates, in base two: the logit less the penalty. -/
def score (x0 x1 : Vec Ideal S1x4x768x128 .fp8e4m3) (x3 x4 : Vec Ideal S1x1x4x768 .f32) (s : Vec Ideal S768x768 .f32)
    (h : Fin 4) (k q : Fin 768) : EReal :=
  (∑ d : Fin 128, x1 (ix4 0 h k d) * x0 (ix4 0 h q d)) *
    (x3 (ix4 0 0 h q) * Named.named (F := Ideal) (φ := .f32) κ "sm_scale_log2e" 0x3E0293EE#32) *
    x4 (ix4 0 0 h k) - s (ix2 k q)

/-- The largest score of a query over its first `n` keys. -/
def topScore (x0 x1 : Vec Ideal S1x4x768x128 .fp8e4m3) (x3 x4 : Vec Ideal S1x1x4x768 .f32) (s : Vec Ideal S768x768 .f32)
    (h : Fin 4) (n : ℕ) (hn : n ≤ 768) (q : Fin 768) : EReal :=
  Finset.univ.fold max (Ideal.ofBits .f32 0xFF800000#32) fun k : Fin n => score x0 x1 x3 x4 s h (k.castLE hn) q

/-- The weight of key `k` before it is divided by the sum. -/
def weight (x0 x1 : Vec Ideal S1x4x768x128 .fp8e4m3) (x3 x4 : Vec Ideal S1x1x4x768 .f32) (s : Vec Ideal S768x768 .f32)
    (h : Fin 4) (n : ℕ) (hn : n ≤ 768) (k q : Fin 768) : EReal :=
  FloatOps.exp2 (F := Ideal) (φ := .f32) (score x0 x1 x3 x4 s h k q - topScore x0 x1 x3 x4 s h n hn q)

/-- One entry of the attention over the first `n` keys. -/
def headVal (x0 x1 x2 : Vec Ideal S1x4x768x128 .fp8e4m3) (x3 x4 x5 : Vec Ideal S1x1x4x768 .f32)
    (s : Vec Ideal S768x768 .f32) (h : Fin 4) (n : ℕ) (hn : n ≤ 768) (q : Fin 768) (d : Fin 128) : EReal :=
  (∑ k : Fin n, x2 (ix4 0 h (k.castLE hn) d) * x5 (ix4 0 0 h (k.castLE hn)) *
      weight x0 x1 x3 x4 s h n hn (k.castLE hn) q) *
    Ideal.div 1 (∑ k : Fin n, weight x0 x1 x3 x4 s h n hn (k.castLE hn) q)

end Cert.KernelIdeal.Gen

end
-- ==== Proof.HeadBase.lean ====
module

public import proofs.«01_k».proof.Proof.HeadSpec

/-! The parts of one head that do not depend on the query block: scales and values. -/

@[expose] public section

set_option maxRecDepth 16384

noncomputable section

namespace Cert.KernelIdeal.Gen

open Idealize.ShloMosaic Idealize.ShloMosaic.TcCoe

section
variable {F : FTy → Type} [FloatOps F] [Named F]

theorem head_codes (h : Fin 4) (o n : ℕ) (hn : o + n ≤ 768) :
    ∀ a, (![0, h.val, o, 0] : Fin 4 → Nat) a + (![1, 1, n, 128] : Fin 4 → Nat) a ≤ S1x4x768x128.size a :=
  fun a => by have := h.isLt; fin_cases a <;> simp <;> omega

theorem head_scales (h : Fin 4) :
    ∀ a, (![0, 0, h.val, 0] : Fin 4 → Nat) a + (![1, 1, 1, 768] : Fin 4 → Nat) a ≤ S1x1x4x768.size a :=
  fun a => by have := h.isLt; fin_cases a <;> simp <;> omega

theorem head_col (h : Fin 4) : S768x4.Slices ![0, h.val] S768x1 :=
  ⟨rfl, fun a => by have := h.isLt; fin_cases a <;> simp <;> omega⟩

/-- The query scales of head `h`, times the softmax scale and the change to base two. -/
def qScale (x3 : Vec F S1x1x4x768 .f32) (h : Fin 4) : FVec F S1x768 .f32 :=
  mulf (shapeCast S1x768 (View.ld x3 (Rect.unit ![0, 0, h.val, 0] ![1, 1, 1, 768] (head_scales h))) shapeCasts_S1x1x1x768_S1x768)
    (broadcast S1x768 (Named.named κ "sm_scale_log2e" 0x3E0293EE#32))

/-- The key scales of head `h`, spread over 128 columns. -/
def kScale (x4 : Vec F S1x1x4x768 .f32) (h : Fin 4) : FVec F S768x128 .f32 :=
  broadcastTo S768x128 (shapeCast S768x1 (extractStridedSlice S768x1 ![0, h.val]
    (k0_pay162 (View.ld x4 (Rect.unit ![0, 0, 0, 0] ![1, 1, 4, 768] inb_S1x1x4x768_S1x1x4x768_0_0_0_0))) (head_col h))
    shapeCasts_S768x1_S768x1) broadcasts_S768x1_S768x128

/-- The values of head `h`, one column per key, times their scales. -/
def vals (x2 : Vec F S1x4x768x128 .fp8e4m3) (x5 : Vec F S1x1x4x768 .f32) (h : Fin 4) : FVec F S128x768 .bf16 :=
  k0_pay165 (View.ld x2 (Rect.unit ![0, h.val, 0, 0] ![1, 1, 768, 128] (head_codes h 0 768 (by omega))))
    (View.ld x5 (Rect.unit ![0, 0, h.val, 0] ![1, 1, 1, 768] (head_scales h)))

end

theorem qScale_apply (x3 : Vec Ideal S1x1x4x768 .f32) (h : Fin 4) (q : Fin 768) :
    qScale x3 h (ix2 0 q) = x3 (ix4 0 0 h q) * Named.named (F := Ideal) (φ := .f32) κ "sm_scale_log2e" 0x3E0293EE#32 := by
  unfold qScale
  pointwise

theorem kScale_apply (x4 : Vec Ideal S1x1x4x768 .f32) (h : Fin 4) (k : Fin 768) (c : Fin 128) :
    kScale x4 h (ix2 k c) = x4 (ix4 0 0 h k) := by
  unfold kScale
  unfold_payloads
  pointwise

theorem vals_apply (x2 : Vec Ideal S1x4x768x128 .fp8e4m3) (x5 : Vec Ideal S1x1x4x768 .f32) (h : Fin 4) (d : Fin 128) (k : Fin 768) :
    vals x2 x5 h (ix2 d k) = x2 (ix4 0 h k d) * x5 (ix4 0 0 h k) := by
  unfold vals
  unfold_payloads
  pointwise

end Cert.KernelIdeal.Gen

end
-- ==== Proof.Block0.lean ====
module

public import proofs.«01_k».proof.Proof.HeadBase

/-! The slabs of one query block of 256 queries: the program of one head as a function of the head number, and what it
    computes entry by entry. -/

@[expose] public section

set_option maxRecDepth 16384

noncomputable section

namespace Cert.KernelIdeal.Gen

open Idealize.ShloMosaic Idealize.ShloMosaic.TcCoe

section
variable {F : FTy → Type} [FloatOps F] [Named F]

/-- The weights of 128 scores per query: two to the score less the largest. -/
def soft_128 (z : FVec F S128x128 .f32) : FVec F S128x128 .f32 :=
  exp2 (subf z (broadcastTo S128x128 (shapeCast S1x128 (multiReduction .maximumf [0] S128 z 0xFF800000#32 reduces_S128x128_S128_2
    (.inl rfl) rfl) shapeCasts_S128_S1x128) broadcasts_S1x128_S128x128))

/-- The sums of 128 weights per query. -/
def sums_128 (e : FVec F S128x128 .f32) : FVec F S1x128 .f32 :=
  shapeCast S1x128 (multiReduction .add [0] S128 e 0x00000000#32 reduces_S128x128_S128_2 (.inl rfl) rfl) shapeCasts_S128_S1x128

/-- The weights of 256 scores per query: two to the score less the largest. -/
def soft_256 (z : FVec F S256x128 .f32) : FVec F S256x128 .f32 :=
  exp2 (subf z (broadcastTo S256x128 (shapeCast S1x128 (multiReduction .maximumf [0] S128 z 0xFF800000#32 reduces_S256x128_S128
    (.inl rfl) rfl) shapeCasts_S128_S1x128) broadcasts_S1x128_S256x128))

/-- The sums of 256 weights per query. -/
def sums_256 (e : FVec F S256x128 .f32) : FVec F S1x128 .f32 :=
  shapeCast S1x128 (multiReduction .add [0] S128 e 0x00000000#32 reduces_S256x128_S128 (.inl rfl) rfl) shapeCasts_S128_S1x128

/-- The key codes up to the block's last query. -/
def keys_0 (x1 : Vec F S1x4x768x128 .fp8e4m3) (h : Fin 4) : FVec F S256x128 .fp8e4m3 :=
  shapeCast S256x128 (View.ld x1 (Rect.unit ![0, h.val, 0, 0] ![1, 1, 256, 128] (head_codes h 0 256 (by omega))))
    shapeCasts_S1x1x256x128_S256x128

/-- The query codes of the block. -/
def queries_0 (x0 : Vec F S1x4x768x128 .fp8e4m3) (h : Fin 4) : FVec F S256x128 .fp8e4m3 :=
  shapeCast S256x128 (View.ld x0 (Rect.unit ![0, h.val, 0, 0] ![1, 1, 256, 128] (head_codes h 0 256 (by omega))))
    shapeCasts_S1x1x256x128_S256x128

/-- The products of the key codes with the query codes of the block. -/
def acc_0 (x0 x1 : Vec F S1x4x768x128 .fp8e4m3) (h : Fin 4) : FVec F S256x256 .f32 :=
  matmul dot_S256x128_S256x128_S256x256_1_1_0_0_n_n none (keys_0 x1 h) (queries_0 x0 h)
    (constant S256x256 .f32 0x00000000#32)

/-- The scores of the block's first 128 queries, over 128 keys. -/
def lo_0 (x0 x1 : Vec F S1x4x768x128 .fp8e4m3) (x3 x4 : Vec F S1x1x4x768 .f32) (s : Vec F S768x768 .f32) (h : Fin 4) :
    FVec F S128x128 .f32 :=
  subf (mulf (mulf (extractStridedSlice S128x128 ![0, 0] (acc_0 x0 x1 h) slices_S256x256_o0_0_S128x128)
    (broadcastTo S128x128 (extractStridedSlice S1x128 ![0, 0] (qScale x3 h) slices_S1x768_o0_0_S1x128) broadcasts_S1x128_S128x128))
    (extractStridedSlice S128x128 ![0, 0] (kScale x4 h) slices_S768x128_o0_0_S128x128))
    (View.ld s (Rect.unit ![0, 0] ![128, 128] inb_S768x768_S128x128_0_0))

/-- The scores of the block's last 128 queries, over 256 keys. -/
def hi_0 (x0 x1 : Vec F S1x4x768x128 .fp8e4m3) (x3 x4 : Vec F S1x1x4x768 .f32) (s : Vec F S768x768 .f32) (h : Fin 4) :
    FVec F S256x128 .f32 :=
  subf (mulf (mulf (extractStridedSlice S256x128 ![0, 128] (acc_0 x0 x1 h) slices_S256x256_o0_128_S256x128)
    (broadcastTo S256x128 (extractStridedSlice S1x128 ![0, 128] (qScale x3 h) slices_S1x768_o0_128_S1x128) broadcasts_S1x128_S256x128))
    (extractStridedSlice S256x128 ![0, 0] (kScale x4 h) slices_S768x128_o0_0_S256x128))
    (View.ld s (Rect.unit ![0, 128] ![256, 128] inb_S768x768_S256x128_0_128))

/-- The slab from the values and the two halves' weights. -/
def slab_0 (v : FVec F S128x768 .bf16) (e : FVec F S128x128 .f32) (e' : FVec F S256x128 .f32) : FVec F S1x256x128 .bf16 :=
  shapeCast S1x256x128 (truncf .bf16 (transpose S256x128 [1, 0] (mulf
    (matmul dot_S128x256_S256x256_S128x256_1_0_0_1_n_n none
      (extractStridedSlice S128x256 ![0, 0] v slices_S128x768_o0_0_S128x256)
      (concatenate S256x256 1 [⟨S256x128, concatenate S256x128 0 [⟨S128x128, truncf .bf16 e bitsLt_bf16_f32⟩,
        ⟨S128x128, broadcast S128x128 (Scalar.ofBits .bf16 0x0000#16)⟩] concatenates_S128x128_S128x128_S256x128_d0⟩,
        ⟨S256x128, truncf .bf16 e' bitsLt_bf16_f32⟩] concatenates_S256x128_S256x128_S256x256_d1)
      (constant S128x256 .f32 0x00000000#32))
    (broadcastTo S128x256 (divf (broadcast S1x256 (Scalar.ofBits .f32 0x3F800000#32))
      (concatenate S1x256 1 [⟨S1x128, sums_128 e⟩, ⟨S1x128, sums_256 e'⟩] concatenates_S1x128_S1x128_S1x256_d1))
      broadcasts_S1x256_S128x256)) transposes_S128x256_p1_0_S256x128) bitsLt_bf16_f32) shapeCasts_S256x128_S1x256x128

/-- The slab of head `h` and this query block. -/
def block_0 (x0 x1 x2 : Vec F S1x4x768x128 .fp8e4m3) (x3 x4 x5 : Vec F S1x1x4x768 .f32) (s : Vec F S768x768 .f32) (h : Fin 4) :
    FVec F S1x256x128 .bf16 :=
  slab_0 (vals x2 x5 h) (soft_128 (lo_0 x0 x1 x3 x4 s h)) (soft_256 (hi_0 x0 x1 x3 x4 s h))

theorem head_0_0_eq (x0 x1 x2 : Vec F S1x4x768x128 .fp8e4m3) (x3 x4 x5 : Vec F S1x1x4x768 .f32) (s : Vec F S768x768 .f32) :
    head_0_0 x0 x1 x2 x3 x4 x5 s = block_0 x0 x1 x2 x3 x4 x5 s 0 := rfl

theorem head_1_0_eq (x0 x1 x2 : Vec F S1x4x768x128 .fp8e4m3) (x3 x4 x5 : Vec F S1x1x4x768 .f32) (s : Vec F S768x768 .f32) :
    head_1_0 x0 x1 x2 x3 x4 x5 s = block_0 x0 x1 x2 x3 x4 x5 s 1 := rfl

theorem head_2_0_eq (x0 x1 x2 : Vec F S1x4x768x128 .fp8e4m3) (x3 x4 x5 : Vec F S1x1x4x768 .f32) (s : Vec F S768x768 .f32) :
    head_2_0 x0 x1 x2 x3 x4 x5 s = block_0 x0 x1 x2 x3 x4 x5 s 2 := rfl

theorem head_3_0_eq (x0 x1 x2 : Vec F S1x4x768x128 .fp8e4m3) (x3 x4 x5 : Vec F S1x1x4x768 .f32) (s : Vec F S768x768 .f32) :
    head_3_0 x0 x1 x2 x3 x4 x5 s = block_0 x0 x1 x2 x3 x4 x5 s 3 := rfl

end

end Cert.KernelIdeal.Gen

end
-- ==== Proof.BlockRead0.lean ====
module

public import proofs.«01_k».proof.Proof.Block0
public import Idealize.ShloMosaic.Lib.ValueLayout
public import Idealize.ShloMosaic.Lib.Pipeline.ValueKit.Tiles

/-! What the slabs of one query block compute, entry by entry. -/

@[expose] public section

set_option maxRecDepth 16384

noncomputable section

namespace Cert.KernelIdeal.Gen

open Idealize.ShloMosaic Idealize.ShloMosaic.TcCoe

theorem soft_128_apply (z : FVec Ideal S128x128 .f32) (k : Fin 128) (c : Fin 128) :
    soft_128 z (ix2 k c) = FloatOps.exp2 (F := Ideal) (φ := .f32) (z (ix2 k c) -
      Finset.univ.fold max (Ideal.ofBits .f32 0xFF800000#32) fun j : Fin 128 => z (ix2 j c)) := by
  unfold soft_128
  pointwise

theorem sums_128_apply (e : FVec Ideal S128x128 .f32) (c : Fin 128) :
    sums_128 e (ix2 0 c) = ∑ j : Fin 128, e (ix2 j c) := by
  unfold sums_128
  pointwise

theorem soft_256_apply (z : FVec Ideal S256x128 .f32) (k : Fin 256) (c : Fin 128) :
    soft_256 z (ix2 k c) = FloatOps.exp2 (F := Ideal) (φ := .f32) (z (ix2 k c) -
      Finset.univ.fold max (Ideal.ofBits .f32 0xFF800000#32) fun j : Fin 256 => z (ix2 j c)) := by
  unfold soft_256
  pointwise

theorem sums_256_apply (e : FVec Ideal S256x128 .f32) (c : Fin 128) :
    sums_256 e (ix2 0 c) = ∑ j : Fin 256, e (ix2 j c) := by
  unfold sums_256
  pointwise

theorem keys_0_apply (x1 : Vec Ideal S1x4x768x128 .fp8e4m3) (h : Fin 4) (k : Fin 256) (d : Fin 128) :
    keys_0 x1 h (ix2 k d) = x1 (ix4 0 h ⟨k.val, by omega⟩ d) := by
  unfold keys_0 shapeCast
  refine (congrArg _ (ValueIdx.reshapeEquiv_ix2_11ab (a := 256) (b := 128) _ k d)).trans ?_
  exact View.ld_unit_apply_of x1 _ _ _ _ _ fun i => by
    fin_cases i
    · rfl
    · rfl
    · exact (Nat.zero_add _).symm
    · exact (Nat.zero_add _).symm

theorem queries_0_apply (x0 : Vec Ideal S1x4x768x128 .fp8e4m3) (h : Fin 4) (c : Fin 256) (d : Fin 128) :
    queries_0 x0 h (ix2 c d) = x0 (ix4 0 h ⟨0 + c.val, by omega⟩ d) := by
  unfold queries_0 shapeCast
  refine (congrArg _ (ValueIdx.reshapeEquiv_ix2_11ab (a := 256) (b := 128) _ c d)).trans ?_
  exact View.ld_unit_apply_of x0 _ _ _ _ _ fun i => by
    fin_cases i
    · rfl
    · rfl
    · exact rfl
    · exact (Nat.zero_add _).symm

theorem acc_0_apply (x0 x1 : Vec Ideal S1x4x768x128 .fp8e4m3) (h : Fin 4) (k : Fin 256) (c : Fin 256) :
    acc_0 x0 x1 h (ix2 k c) = ∑ d : Fin 128, x1 (ix4 0 h ⟨k.val, by omega⟩ d) * x0 (ix4 0 h ⟨0 + c.val, by omega⟩ d) := by
  unfold acc_0
  pointwise [dot_S256x128_S256x128_S256x256_1_1_0_0_n_n, keys_0_apply, queries_0_apply]
theorem lo_0_apply (x0 x1 : Vec Ideal S1x4x768x128 .fp8e4m3) (x3 x4 : Vec Ideal S1x1x4x768 .f32) (s : Vec Ideal S768x768 .f32) (h : Fin 4)
    (k : Fin 128) (c : Fin 128) :
    lo_0 x0 x1 x3 x4 s h (ix2 k c) = score x0 x1 x3 x4 s h ⟨k.val, by omega⟩ ⟨0 + c.val, by omega⟩ := by
  unfold lo_0
  pointwise [acc_0_apply, qScale_apply, kScale_apply]
  first | rfl | (unfold score; simp only [Nat.zero_add]; rfl)

theorem hi_0_apply (x0 x1 : Vec Ideal S1x4x768x128 .fp8e4m3) (x3 x4 : Vec Ideal S1x1x4x768 .f32) (s : Vec Ideal S768x768 .f32) (h : Fin 4)
    (k : Fin 256) (c : Fin 128) :
    hi_0 x0 x1 x3 x4 s h (ix2 k c) = score x0 x1 x3 x4 s h ⟨k.val, by omega⟩ ⟨128 + c.val, by omega⟩ := by
  unfold hi_0
  pointwise [acc_0_apply, qScale_apply, kScale_apply]
  first | rfl | (unfold score; simp only [← Nat.add_assoc, Nat.reduceAdd])

theorem slab_0_apply (v : FVec Ideal S128x768 .bf16) (e : FVec Ideal S128x128 .f32) (e' : FVec Ideal S256x128 .f32) (r : Fin 256) (d : Fin 128) :
    slab_0 v e e' (ix3 0 r d) =
      ((∑ x : Fin 128, v (ix2 d ⟨x.val, by omega⟩) * if h : r.val < 128 then e (ix2 x ⟨r.val, h⟩)
          else e' (ix2 ⟨x.val, by omega⟩ ⟨r.val - 128, by omega⟩)) +
        ∑ x : Fin 128, v (ix2 d ⟨128 + x.val, by omega⟩) * if h : r.val < 128 then 0
          else e' (ix2 ⟨128 + x.val, by omega⟩ ⟨r.val - 128, by omega⟩)) *
      Ideal.div 1 (if h : r.val < 128 then ∑ j : Fin 128, e (ix2 j ⟨r.val, h⟩)
        else ∑ j : Fin 256, e' (ix2 j ⟨r.val - 128, by omega⟩)) := by
  unfold slab_0
  pointwise [dot_S128x256_S256x256_S128x256_1_0_0_1_n_n, sums_128_apply, sums_256_apply]

theorem block_0_lo (x0 x1 x2 : Vec Ideal S1x4x768x128 .fp8e4m3) (x3 x4 x5 : Vec Ideal S1x1x4x768 .f32) (s : Vec Ideal S768x768 .f32) (h : Fin 4)
    (r : Fin 128) (d : Fin 128) :
    block_0 x0 x1 x2 x3 x4 x5 s h (ix3 0 ⟨r.val, by omega⟩ d) =
      headVal x0 x1 x2 x3 x4 x5 s h 128 (by omega) ⟨0 + r.val, by omega⟩ d := by
  unfold block_0
  rw [slab_0_apply]
  simp only [dif_pos r.isLt, mul_zero, Finset.sum_const_zero, add_zero, vals_apply, soft_128_apply, lo_0_apply]
  rfl

theorem block_0_hi (x0 x1 x2 : Vec Ideal S1x4x768x128 .fp8e4m3) (x3 x4 x5 : Vec Ideal S1x1x4x768 .f32) (s : Vec Ideal S768x768 .f32) (h : Fin 4)
    (r : Fin 128) (d : Fin 128) :
    block_0 x0 x1 x2 x3 x4 x5 s h (ix3 0 ⟨128 + r.val, by omega⟩ d) =
      headVal x0 x1 x2 x3 x4 x5 s h 256 (by omega) ⟨128 + r.val, by omega⟩ d := by
  unfold block_0
  rw [slab_0_apply]
  have hr : ¬ 128 + r.val < 128 := by omega
  simp only [dif_neg hr, Nat.add_sub_cancel_left, vals_apply, soft_256_apply, hi_0_apply]
  have e := Fin.sum_univ_add (a := 128) (b := 128) (fun k : Fin 256 =>
    x2 (ix4 0 h (k.castLE (by omega)) d) * x5 (ix4 0 0 h (k.castLE (by omega))) *
      weight x0 x1 x3 x4 s h 256 (by omega) (k.castLE (by omega)) ⟨128 + r.val, by omega⟩)
  exact congrArg (fun z => z * Ideal.div 1 (∑ k : Fin 256,
    weight x0 x1 x3 x4 s h 256 (by omega) (k.castLE (by omega)) ⟨128 + r.val, by omega⟩)) e.symm

end Cert.KernelIdeal.Gen

end
-- ==== Proof.Block1.lean ====
module

public import proofs.«01_k».proof.Proof.HeadBase

/-! The slabs of one query block of 256 queries: the program of one head as a function of the head number, and what it
    computes entry by entry. -/

@[expose] public section

set_option maxRecDepth 16384

noncomputable section

namespace Cert.KernelIdeal.Gen

open Idealize.ShloMosaic Idealize.ShloMosaic.TcCoe

section
variable {F : FTy → Type} [FloatOps F] [Named F]

/-- The weights of 384 scores per query: two to the score less the largest. -/
def soft_384 (z : FVec F S384x128 .f32) : FVec F S384x128 .f32 :=
  exp2 (subf z (broadcastTo S384x128 (shapeCast S1x128 (multiReduction .maximumf [0] S128 z 0xFF800000#32 reduces_S384x128_S128
    (.inl rfl) rfl) shapeCasts_S128_S1x128) broadcasts_S1x128_S384x128))

/-- The sums of 384 weights per query. -/
def sums_384 (e : FVec F S384x128 .f32) : FVec F S1x128 .f32 :=
  shapeCast S1x128 (multiReduction .add [0] S128 e 0x00000000#32 reduces_S384x128_S128 (.inl rfl) rfl) shapeCasts_S128_S1x128

/-- The weights of 512 scores per query: two to the score less the largest. -/
def soft_512 (z : FVec F S512x128 .f32) : FVec F S512x128 .f32 :=
  exp2 (subf z (broadcastTo S512x128 (shapeCast S1x128 (multiReduction .maximumf [0] S128 z 0xFF800000#32 reduces_S512x128_S128
    (.inl rfl) rfl) shapeCasts_S128_S1x128) broadcasts_S1x128_S512x128))

/-- The sums of 512 weights per query. -/
def sums_512 (e : FVec F S512x128 .f32) : FVec F S1x128 .f32 :=
  shapeCast S1x128 (multiReduction .add [0] S128 e 0x00000000#32 reduces_S512x128_S128 (.inl rfl) rfl) shapeCasts_S128_S1x128

/-- The key codes up to the block's last query. -/
def keys_1 (x1 : Vec F S1x4x768x128 .fp8e4m3) (h : Fin 4) : FVec F S512x128 .fp8e4m3 :=
  shapeCast S512x128 (View.ld x1 (Rect.unit ![0, h.val, 0, 0] ![1, 1, 512, 128] (head_codes h 0 512 (by omega))))
    shapeCasts_S1x1x512x128_S512x128

/-- The query codes of the block. -/
def queries_1 (x0 : Vec F S1x4x768x128 .fp8e4m3) (h : Fin 4) : FVec F S256x128 .fp8e4m3 :=
  shapeCast S256x128 (View.ld x0 (Rect.unit ![0, h.val, 256, 0] ![1, 1, 256, 128] (head_codes h 256 256 (by omega))))
    shapeCasts_S1x1x256x128_S256x128

/-- The products of the key codes with the query codes of the block. -/
def acc_1 (x0 x1 : Vec F S1x4x768x128 .fp8e4m3) (h : Fin 4) : FVec F S512x256 .f32 :=
  matmul dot_S512x128_S256x128_S512x256_1_1_0_0_n_n none (keys_1 x1 h) (queries_1 x0 h)
    (constant S512x256 .f32 0x00000000#32)

/-- The scores of the block's first 128 queries, over 384 keys. -/
def lo_1 (x0 x1 : Vec F S1x4x768x128 .fp8e4m3) (x3 x4 : Vec F S1x1x4x768 .f32) (s : Vec F S768x768 .f32) (h : Fin 4) :
    FVec F S384x128 .f32 :=
  subf (mulf (mulf (extractStridedSlice S384x128 ![0, 0] (acc_1 x0 x1 h) slices_S512x256_o0_0_S384x128)
    (broadcastTo S384x128 (extractStridedSlice S1x128 ![0, 256] (qScale x3 h) slices_S1x768_o0_256_S1x128) broadcasts_S1x128_S384x128))
    (extractStridedSlice S384x128 ![0, 0] (kScale x4 h) slices_S768x128_o0_0_S384x128))
    (View.ld s (Rect.unit ![0, 256] ![384, 128] inb_S768x768_S384x128_0_256))

/-- The scores of the block's last 128 queries, over 512 keys. -/
def hi_1 (x0 x1 : Vec F S1x4x768x128 .fp8e4m3) (x3 x4 : Vec F S1x1x4x768 .f32) (s : Vec F S768x768 .f32) (h : Fin 4) :
    FVec F S512x128 .f32 :=
  subf (mulf (mulf (extractStridedSlice S512x128 ![0, 128] (acc_1 x0 x1 h) slices_S512x256_o0_128_S512x128)
    (broadcastTo S512x128 (extractStridedSlice S1x128 ![0, 384] (qScale x3 h) slices_S1x768_o0_384_S1x128) broadcasts_S1x128_S512x128))
    (extractStridedSlice S512x128 ![0, 0] (kScale x4 h) slices_S768x128_o0_0_S512x128))
    (View.ld s (Rect.unit ![0, 384] ![512, 128] inb_S768x768_S512x128_0_384))

/-- The slab from the values and the two halves' weights. -/
def slab_1 (v : FVec F S128x768 .bf16) (e : FVec F S384x128 .f32) (e' : FVec F S512x128 .f32) : FVec F S1x256x128 .bf16 :=
  shapeCast S1x256x128 (truncf .bf16 (transpose S256x128 [1, 0] (mulf
    (matmul dot_S128x512_S512x256_S128x256_1_0_0_1_n_n none
      (extractStridedSlice S128x512 ![0, 0] v slices_S128x768_o0_0_S128x512)
      (concatenate S512x256 1 [⟨S512x128, concatenate S512x128 0 [⟨S384x128, truncf .bf16 e bitsLt_bf16_f32⟩,
        ⟨S128x128, broadcast S128x128 (Scalar.ofBits .bf16 0x0000#16)⟩] concatenates_S384x128_S128x128_S512x128_d0⟩,
        ⟨S512x128, truncf .bf16 e' bitsLt_bf16_f32⟩] concatenates_S512x128_S512x128_S512x256_d1)
      (constant S128x256 .f32 0x00000000#32))
    (broadcastTo S128x256 (divf (broadcast S1x256 (Scalar.ofBits .f32 0x3F800000#32))
      (concatenate S1x256 1 [⟨S1x128, sums_384 e⟩, ⟨S1x128, sums_512 e'⟩] concatenates_S1x128_S1x128_S1x256_d1))
      broadcasts_S1x256_S128x256)) transposes_S128x256_p1_0_S256x128) bitsLt_bf16_f32) shapeCasts_S256x128_S1x256x128

/-- The slab of head `h` and this query block. -/
def block_1 (x0 x1 x2 : Vec F S1x4x768x128 .fp8e4m3) (x3 x4 x5 : Vec F S1x1x4x768 .f32) (s : Vec F S768x768 .f32) (h : Fin 4) :
    FVec F S1x256x128 .bf16 :=
  slab_1 (vals x2 x5 h) (soft_384 (lo_1 x0 x1 x3 x4 s h)) (soft_512 (hi_1 x0 x1 x3 x4 s h))

theorem head_0_1_eq (x0 x1 x2 : Vec F S1x4x768x128 .fp8e4m3) (x3 x4 x5 : Vec F S1x1x4x768 .f32) (s : Vec F S768x768 .f32) :
    head_0_1 x0 x1 x2 x3 x4 x5 s = block_1 x0 x1 x2 x3 x4 x5 s 0 := rfl

theorem head_1_1_eq (x0 x1 x2 : Vec F S1x4x768x128 .fp8e4m3) (x3 x4 x5 : Vec F S1x1x4x768 .f32) (s : Vec F S768x768 .f32) :
    head_1_1 x0 x1 x2 x3 x4 x5 s = block_1 x0 x1 x2 x3 x4 x5 s 1 := rfl

theorem head_2_1_eq (x0 x1 x2 : Vec F S1x4x768x128 .fp8e4m3) (x3 x4 x5 : Vec F S1x1x4x768 .f32) (s : Vec F S768x768 .f32) :
    head_2_1 x0 x1 x2 x3 x4 x5 s = block_1 x0 x1 x2 x3 x4 x5 s 2 := rfl

theorem head_3_1_eq (x0 x1 x2 : Vec F S1x4x768x128 .fp8e4m3) (x3 x4 x5 : Vec F S1x1x4x768 .f32) (s : Vec F S768x768 .f32) :
    head_3_1 x0 x1 x2 x3 x4 x5 s = block_1 x0 x1 x2 x3 x4 x5 s 3 := rfl

end

end Cert.KernelIdeal.Gen

end
-- ==== Proof.BlockRead1.lean ====
module

public import proofs.«01_k».proof.Proof.Block1
public import Idealize.ShloMosaic.Lib.ValueLayout
public import Idealize.ShloMosaic.Lib.Pipeline.ValueKit.Tiles

/-! What the slabs of one query block compute, entry by entry. -/

@[expose] public section

set_option maxRecDepth 16384

noncomputable section

namespace Cert.KernelIdeal.Gen

open Idealize.ShloMosaic Idealize.ShloMosaic.TcCoe

theorem soft_384_apply (z : FVec Ideal S384x128 .f32) (k : Fin 384) (c : Fin 128) :
    soft_384 z (ix2 k c) = FloatOps.exp2 (F := Ideal) (φ := .f32) (z (ix2 k c) -
      Finset.univ.fold max (Ideal.ofBits .f32 0xFF800000#32) fun j : Fin 384 => z (ix2 j c)) := by
  unfold soft_384
  pointwise

theorem sums_384_apply (e : FVec Ideal S384x128 .f32) (c : Fin 128) :
    sums_384 e (ix2 0 c) = ∑ j : Fin 384, e (ix2 j c) := by
  unfold sums_384
  pointwise

theorem soft_512_apply (z : FVec Ideal S512x128 .f32) (k : Fin 512) (c : Fin 128) :
    soft_512 z (ix2 k c) = FloatOps.exp2 (F := Ideal) (φ := .f32) (z (ix2 k c) -
      Finset.univ.fold max (Ideal.ofBits .f32 0xFF800000#32) fun j : Fin 512 => z (ix2 j c)) := by
  unfold soft_512
  pointwise

theorem sums_512_apply (e : FVec Ideal S512x128 .f32) (c : Fin 128) :
    sums_512 e (ix2 0 c) = ∑ j : Fin 512, e (ix2 j c) := by
  unfold sums_512
  pointwise

theorem keys_1_apply (x1 : Vec Ideal S1x4x768x128 .fp8e4m3) (h : Fin 4) (k : Fin 512) (d : Fin 128) :
    keys_1 x1 h (ix2 k d) = x1 (ix4 0 h ⟨k.val, by omega⟩ d) := by
  unfold keys_1 shapeCast
  refine (congrArg _ (ValueIdx.reshapeEquiv_ix2_11ab (a := 512) (b := 128) _ k d)).trans ?_
  exact View.ld_unit_apply_of x1 _ _ _ _ _ fun i => by
    fin_cases i
    · rfl
    · rfl
    · exact (Nat.zero_add _).symm
    · exact (Nat.zero_add _).symm

theorem queries_1_apply (x0 : Vec Ideal S1x4x768x128 .fp8e4m3) (h : Fin 4) (c : Fin 256) (d : Fin 128) :
    queries_1 x0 h (ix2 c d) = x0 (ix4 0 h ⟨256 + c.val, by omega⟩ d) := by
  unfold queries_1 shapeCast
  refine (congrArg _ (ValueIdx.reshapeEquiv_ix2_11ab (a := 256) (b := 128) _ c d)).trans ?_
  exact View.ld_unit_apply_of x0 _ _ _ _ _ fun i => by
    fin_cases i
    · rfl
    · rfl
    · exact rfl
    · exact (Nat.zero_add _).symm

theorem acc_1_apply (x0 x1 : Vec Ideal S1x4x768x128 .fp8e4m3) (h : Fin 4) (k : Fin 512) (c : Fin 256) :
    acc_1 x0 x1 h (ix2 k c) = ∑ d : Fin 128, x1 (ix4 0 h ⟨k.val, by omega⟩ d) * x0 (ix4 0 h ⟨256 + c.val, by omega⟩ d) := by
  unfold acc_1
  pointwise [dot_S512x128_S256x128_S512x256_1_1_0_0_n_n, keys_1_apply, queries_1_apply]
theorem lo_1_apply (x0 x1 : Vec Ideal S1x4x768x128 .fp8e4m3) (x3 x4 : Vec Ideal S1x1x4x768 .f32) (s : Vec Ideal S768x768 .f32) (h : Fin 4)
    (k : Fin 384) (c : Fin 128) :
    lo_1 x0 x1 x3 x4 s h (ix2 k c) = score x0 x1 x3 x4 s h ⟨k.val, by omega⟩ ⟨256 + c.val, by omega⟩ := by
  unfold lo_1
  pointwise [acc_1_apply, qScale_apply, kScale_apply]
  first | rfl | (unfold score; simp only [Nat.zero_add]; rfl)

theorem hi_1_apply (x0 x1 : Vec Ideal S1x4x768x128 .fp8e4m3) (x3 x4 : Vec Ideal S1x1x4x768 .f32) (s : Vec Ideal S768x768 .f32) (h : Fin 4)
    (k : Fin 512) (c : Fin 128) :
    hi_1 x0 x1 x3 x4 s h (ix2 k c) = score x0 x1 x3 x4 s h ⟨k.val, by omega⟩ ⟨384 + c.val, by omega⟩ := by
  unfold hi_1
  pointwise [acc_1_apply, qScale_apply, kScale_apply]
  first | rfl | (unfold score; simp only [← Nat.add_assoc, Nat.reduceAdd])

theorem slab_1_apply (v : FVec Ideal S128x768 .bf16) (e : FVec Ideal S384x128 .f32) (e' : FVec Ideal S512x128 .f32) (r : Fin 256) (d : Fin 128) :
    slab_1 v e e' (ix3 0 r d) =
      ((∑ x : Fin 384, v (ix2 d ⟨x.val, by omega⟩) * if h : r.val < 128 then e (ix2 x ⟨r.val, h⟩)
          else e' (ix2 ⟨x.val, by omega⟩ ⟨r.val - 128, by omega⟩)) +
        ∑ x : Fin 128, v (ix2 d ⟨384 + x.val, by omega⟩) * if h : r.val < 128 then 0
          else e' (ix2 ⟨384 + x.val, by omega⟩ ⟨r.val - 128, by omega⟩)) *
      Ideal.div 1 (if h : r.val < 128 then ∑ j : Fin 384, e (ix2 j ⟨r.val, h⟩)
        else ∑ j : Fin 512, e' (ix2 j ⟨r.val - 128, by omega⟩)) := by
  unfold slab_1
  pointwise [dot_S128x512_S512x256_S128x256_1_0_0_1_n_n, sums_384_apply, sums_512_apply]

theorem block_1_lo (x0 x1 x2 : Vec Ideal S1x4x768x128 .fp8e4m3) (x3 x4 x5 : Vec Ideal S1x1x4x768 .f32) (s : Vec Ideal S768x768 .f32) (h : Fin 4)
    (r : Fin 128) (d : Fin 128) :
    block_1 x0 x1 x2 x3 x4 x5 s h (ix3 0 ⟨r.val, by omega⟩ d) =
      headVal x0 x1 x2 x3 x4 x5 s h 384 (by omega) ⟨256 + r.val, by omega⟩ d := by
  unfold block_1
  rw [slab_1_apply]
  simp only [dif_pos r.isLt, mul_zero, Finset.sum_const_zero, add_zero, vals_apply, soft_384_apply, lo_1_apply]
  rfl

theorem block_1_hi (x0 x1 x2 : Vec Ideal S1x4x768x128 .fp8e4m3) (x3 x4 x5 : Vec Ideal S1x1x4x768 .f32) (s : Vec Ideal S768x768 .f32) (h : Fin 4)
    (r : Fin 128) (d : Fin 128) :
    block_1 x0 x1 x2 x3 x4 x5 s h (ix3 0 ⟨128 + r.val, by omega⟩ d) =
      headVal x0 x1 x2 x3 x4 x5 s h 512 (by omega) ⟨384 + r.val, by omega⟩ d := by
  unfold block_1
  rw [slab_1_apply]
  have hr : ¬ 128 + r.val < 128 := by omega
  simp only [dif_neg hr, Nat.add_sub_cancel_left, vals_apply, soft_512_apply, hi_1_apply]
  have e := Fin.sum_univ_add (a := 384) (b := 128) (fun k : Fin 512 =>
    x2 (ix4 0 h (k.castLE (by omega)) d) * x5 (ix4 0 0 h (k.castLE (by omega))) *
      weight x0 x1 x3 x4 s h 512 (by omega) (k.castLE (by omega)) ⟨384 + r.val, by omega⟩)
  exact congrArg (fun z => z * Ideal.div 1 (∑ k : Fin 512,
    weight x0 x1 x3 x4 s h 512 (by omega) (k.castLE (by omega)) ⟨384 + r.val, by omega⟩)) e.symm

end Cert.KernelIdeal.Gen

end
-- ==== Proof.Block2.lean ====
module

public import proofs.«01_k».proof.Proof.HeadBase

/-! The slabs of one query block of 256 queries: the program of one head as a function of the head number, and what it
    computes entry by entry. -/

@[expose] public section

set_option maxRecDepth 16384

noncomputable section

namespace Cert.KernelIdeal.Gen

open Idealize.ShloMosaic Idealize.ShloMosaic.TcCoe

section
variable {F : FTy → Type} [FloatOps F] [Named F]

/-- The weights of 640 scores per query: two to the score less the largest. -/
def soft_640 (z : FVec F S640x128 .f32) : FVec F S640x128 .f32 :=
  exp2 (subf z (broadcastTo S640x128 (shapeCast S1x128 (multiReduction .maximumf [0] S128 z 0xFF800000#32 reduces_S640x128_S128
    (.inl rfl) rfl) shapeCasts_S128_S1x128) broadcasts_S1x128_S640x128))

/-- The sums of 640 weights per query. -/
def sums_640 (e : FVec F S640x128 .f32) : FVec F S1x128 .f32 :=
  shapeCast S1x128 (multiReduction .add [0] S128 e 0x00000000#32 reduces_S640x128_S128 (.inl rfl) rfl) shapeCasts_S128_S1x128

/-- The weights of 768 scores per query: two to the score less the largest. -/
def soft_768 (z : FVec F S768x128 .f32) : FVec F S768x128 .f32 :=
  exp2 (subf z (broadcastTo S768x128 (shapeCast S1x128 (multiReduction .maximumf [0] S128 z 0xFF800000#32 reduces_S768x128_S128
    (.inl rfl) rfl) shapeCasts_S128_S1x128) broadcasts_S1x128_S768x128))

/-- The sums of 768 weights per query. -/
def sums_768 (e : FVec F S768x128 .f32) : FVec F S1x128 .f32 :=
  shapeCast S1x128 (multiReduction .add [0] S128 e 0x00000000#32 reduces_S768x128_S128 (.inl rfl) rfl) shapeCasts_S128_S1x128

/-- The key codes up to the block's last query. -/
def keys_2 (x1 : Vec F S1x4x768x128 .fp8e4m3) (h : Fin 4) : FVec F S768x128 .fp8e4m3 :=
  shapeCast S768x128 (View.ld x1 (Rect.unit ![0, h.val, 0, 0] ![1, 1, 768, 128] (head_codes h 0 768 (by omega))))
    shapeCasts_S1x1x768x128_S768x128

/-- The query codes of the block. -/
def queries_2 (x0 : Vec F S1x4x768x128 .fp8e4m3) (h : Fin 4) : FVec F S256x128 .fp8e4m3 :=
  shapeCast S256x128 (View.ld x0 (Rect.unit ![0, h.val, 512, 0] ![1, 1, 256, 128] (head_codes h 512 256 (by omega))))
    shapeCasts_S1x1x256x128_S256x128

/-- The products of the key codes with the query codes of the block. -/
def acc_2 (x0 x1 : Vec F S1x4x768x128 .fp8e4m3) (h : Fin 4) : FVec F S768x256 .f32 :=
  matmul dot_S768x128_S256x128_S768x256_1_1_0_0_n_n none (keys_2 x1 h) (queries_2 x0 h)
    (constant S768x256 .f32 0x00000000#32)

/-- The scores of the block's first 128 queries, over 640 keys. -/
def lo_2 (x0 x1 : Vec F S1x4x768x128 .fp8e4m3) (x3 x4 : Vec F S1x1x4x768 .f32) (s : Vec F S768x768 .f32) (h : Fin 4) :
    FVec F S640x128 .f32 :=
  subf (mulf (mulf (extractStridedSlice S640x128 ![0, 0] (acc_2 x0 x1 h) slices_S768x256_o0_0_S640x128)
    (broadcastTo S640x128 (extractStridedSlice S1x128 ![0, 512] (qScale x3 h) slices_S1x768_o0_512_S1x128) broadcasts_S1x128_S640x128))
    (extractStridedSlice S640x128 ![0, 0] (kScale x4 h) slices_S768x128_o0_0_S640x128))
    (View.ld s (Rect.unit ![0, 512] ![640, 128] inb_S768x768_S640x128_0_512))

/-- The scores of the block's last 128 queries, over 768 keys. -/
def hi_2 (x0 x1 : Vec F S1x4x768x128 .fp8e4m3) (x3 x4 : Vec F S1x1x4x768 .f32) (s : Vec F S768x768 .f32) (h : Fin 4) :
    FVec F S768x128 .f32 :=
  subf (mulf (mulf (extractStridedSlice S768x128 ![0, 128] (acc_2 x0 x1 h) slices_S768x256_o0_128_S768x128)
    (broadcastTo S768x128 (extractStridedSlice S1x128 ![0, 640] (qScale x3 h) slices_S1x768_o0_640_S1x128) broadcasts_S1x128_S768x128))
    (kScale x4 h))
    (View.ld s (Rect.unit ![0, 640] ![768, 128] inb_S768x768_S768x128_0_640))

/-- The slab from the values and the two halves' weights. -/
def slab_2 (v : FVec F S128x768 .bf16) (e : FVec F S640x128 .f32) (e' : FVec F S768x128 .f32) : FVec F S1x256x128 .bf16 :=
  shapeCast S1x256x128 (truncf .bf16 (transpose S256x128 [1, 0] (mulf
    (matmul dot_S128x768_S768x256_S128x256_1_0_0_1_n_n none
      v
      (concatenate S768x256 1 [⟨S768x128, concatenate S768x128 0 [⟨S640x128, truncf .bf16 e bitsLt_bf16_f32⟩,
        ⟨S128x128, broadcast S128x128 (Scalar.ofBits .bf16 0x0000#16)⟩] concatenates_S640x128_S128x128_S768x128_d0⟩,
        ⟨S768x128, truncf .bf16 e' bitsLt_bf16_f32⟩] concatenates_S768x128_S768x128_S768x256_d1)
      (constant S128x256 .f32 0x00000000#32))
    (broadcastTo S128x256 (divf (broadcast S1x256 (Scalar.ofBits .f32 0x3F800000#32))
      (concatenate S1x256 1 [⟨S1x128, sums_640 e⟩, ⟨S1x128, sums_768 e'⟩] concatenates_S1x128_S1x128_S1x256_d1))
      broadcasts_S1x256_S128x256)) transposes_S128x256_p1_0_S256x128) bitsLt_bf16_f32) shapeCasts_S256x128_S1x256x128

/-- The slab of head `h` and this query block. -/
def block_2 (x0 x1 x2 : Vec F S1x4x768x128 .fp8e4m3) (x3 x4 x5 : Vec F S1x1x4x768 .f32) (s : Vec F S768x768 .f32) (h : Fin 4) :
    FVec F S1x256x128 .bf16 :=
  slab_2 (vals x2 x5 h) (soft_640 (lo_2 x0 x1 x3 x4 s h)) (soft_768 (hi_2 x0 x1 x3 x4 s h))

theorem head_0_2_eq (x0 x1 x2 : Vec F S1x4x768x128 .fp8e4m3) (x3 x4 x5 : Vec F S1x1x4x768 .f32) (s : Vec F S768x768 .f32) :
    head_0_2 x0 x1 x2 x3 x4 x5 s = block_2 x0 x1 x2 x3 x4 x5 s 0 := rfl

theorem head_1_2_eq (x0 x1 x2 : Vec F S1x4x768x128 .fp8e4m3) (x3 x4 x5 : Vec F S1x1x4x768 .f32) (s : Vec F S768x768 .f32) :
    head_1_2 x0 x1 x2 x3 x4 x5 s = block_2 x0 x1 x2 x3 x4 x5 s 1 := rfl

theorem head_2_2_eq (x0 x1 x2 : Vec F S1x4x768x128 .fp8e4m3) (x3 x4 x5 : Vec F S1x1x4x768 .f32) (s : Vec F S768x768 .f32) :
    head_2_2 x0 x1 x2 x3 x4 x5 s = block_2 x0 x1 x2 x3 x4 x5 s 2 := rfl

theorem head_3_2_eq (x0 x1 x2 : Vec F S1x4x768x128 .fp8e4m3) (x3 x4 x5 : Vec F S1x1x4x768 .f32) (s : Vec F S768x768 .f32) :
    head_3_2 x0 x1 x2 x3 x4 x5 s = block_2 x0 x1 x2 x3 x4 x5 s 3 := rfl

end

end Cert.KernelIdeal.Gen

end
-- ==== Proof.BlockRead2.lean ====
module

public import proofs.«01_k».proof.Proof.Block2
public import Idealize.ShloMosaic.Lib.ValueLayout
public import Idealize.ShloMosaic.Lib.Pipeline.ValueKit.Tiles

/-! What the slabs of one query block compute, entry by entry. -/

@[expose] public section

set_option maxRecDepth 16384

noncomputable section

namespace Cert.KernelIdeal.Gen

open Idealize.ShloMosaic Idealize.ShloMosaic.TcCoe

theorem soft_640_apply (z : FVec Ideal S640x128 .f32) (k : Fin 640) (c : Fin 128) :
    soft_640 z (ix2 k c) = FloatOps.exp2 (F := Ideal) (φ := .f32) (z (ix2 k c) -
      Finset.univ.fold max (Ideal.ofBits .f32 0xFF800000#32) fun j : Fin 640 => z (ix2 j c)) := by
  unfold soft_640
  pointwise

theorem sums_640_apply (e : FVec Ideal S640x128 .f32) (c : Fin 128) :
    sums_640 e (ix2 0 c) = ∑ j : Fin 640, e (ix2 j c) := by
  unfold sums_640
  pointwise

theorem soft_768_apply (z : FVec Ideal S768x128 .f32) (k : Fin 768) (c : Fin 128) :
    soft_768 z (ix2 k c) = FloatOps.exp2 (F := Ideal) (φ := .f32) (z (ix2 k c) -
      Finset.univ.fold max (Ideal.ofBits .f32 0xFF800000#32) fun j : Fin 768 => z (ix2 j c)) := by
  unfold soft_768
  pointwise

theorem sums_768_apply (e : FVec Ideal S768x128 .f32) (c : Fin 128) :
    sums_768 e (ix2 0 c) = ∑ j : Fin 768, e (ix2 j c) := by
  unfold sums_768
  pointwise

theorem keys_2_apply (x1 : Vec Ideal S1x4x768x128 .fp8e4m3) (h : Fin 4) (k : Fin 768) (d : Fin 128) :
    keys_2 x1 h (ix2 k d) = x1 (ix4 0 h ⟨k.val, by omega⟩ d) := by
  unfold keys_2 shapeCast
  refine (congrArg _ (ValueIdx.reshapeEquiv_ix2_11ab (a := 768) (b := 128) _ k d)).trans ?_
  exact View.ld_unit_apply_of x1 _ _ _ _ _ fun i => by
    fin_cases i
    · rfl
    · rfl
    · exact (Nat.zero_add _).symm
    · exact (Nat.zero_add _).symm

theorem queries_2_apply (x0 : Vec Ideal S1x4x768x128 .fp8e4m3) (h : Fin 4) (c : Fin 256) (d : Fin 128) :
    queries_2 x0 h (ix2 c d) = x0 (ix4 0 h ⟨512 + c.val, by omega⟩ d) := by
  unfold queries_2 shapeCast
  refine (congrArg _ (ValueIdx.reshapeEquiv_ix2_11ab (a := 256) (b := 128) _ c d)).trans ?_
  exact View.ld_unit_apply_of x0 _ _ _ _ _ fun i => by
    fin_cases i
    · rfl
    · rfl
    · exact rfl
    · exact (Nat.zero_add _).symm

theorem acc_2_apply (x0 x1 : Vec Ideal S1x4x768x128 .fp8e4m3) (h : Fin 4) (k : Fin 768) (c : Fin 256) :
    acc_2 x0 x1 h (ix2 k c) = ∑ d : Fin 128, x1 (ix4 0 h ⟨k.val, by omega⟩ d) * x0 (ix4 0 h ⟨512 + c.val, by omega⟩ d) := by
  unfold acc_2
  pointwise [dot_S768x128_S256x128_S768x256_1_1_0_0_n_n, keys_2_apply, queries_2_apply]
theorem lo_2_apply (x0 x1 : Vec Ideal S1x4x768x128 .fp8e4m3) (x3 x4 : Vec Ideal S1x1x4x768 .f32) (s : Vec Ideal S768x768 .f32) (h : Fin 4)
    (k : Fin 640) (c : Fin 128) :
    lo_2 x0 x1 x3 x4 s h (ix2 k c) = score x0 x1 x3 x4 s h ⟨k.val, by omega⟩ ⟨512 + c.val, by omega⟩ := by
  unfold lo_2
  pointwise [acc_2_apply, qScale_apply, kScale_apply]
  first | rfl | (unfold score; simp only [Nat.zero_add]; rfl)

theorem hi_2_apply (x0 x1 : Vec Ideal S1x4x768x128 .fp8e4m3) (x3 x4 : Vec Ideal S1x1x4x768 .f32) (s : Vec Ideal S768x768 .f32) (h : Fin 4)
    (k : Fin 768) (c : Fin 128) :
    hi_2 x0 x1 x3 x4 s h (ix2 k c) = score x0 x1 x3 x4 s h ⟨k.val, by omega⟩ ⟨640 + c.val, by omega⟩ := by
  unfold hi_2
  pointwise [acc_2_apply, qScale_apply, kScale_apply]
  first | rfl | (unfold score; simp only [← Nat.add_assoc, Nat.reduceAdd])

theorem slab_2_apply (v : FVec Ideal S128x768 .bf16) (e : FVec Ideal S640x128 .f32) (e' : FVec Ideal S768x128 .f32) (r : Fin 256) (d : Fin 128) :
    slab_2 v e e' (ix3 0 r d) =
      ((∑ x : Fin 640, v (ix2 d ⟨x.val, by omega⟩) * if h : r.val < 128 then e (ix2 x ⟨r.val, h⟩)
          else e' (ix2 ⟨x.val, by omega⟩ ⟨r.val - 128, by omega⟩)) +
        ∑ x : Fin 128, v (ix2 d ⟨640 + x.val, by omega⟩) * if h : r.val < 128 then 0
          else e' (ix2 ⟨640 + x.val, by omega⟩ ⟨r.val - 128, by omega⟩)) *
      Ideal.div 1 (if h : r.val < 128 then ∑ j : Fin 640, e (ix2 j ⟨r.val, h⟩)
        else ∑ j : Fin 768, e' (ix2 j ⟨r.val - 128, by omega⟩)) := by
  unfold slab_2
  pointwise [dot_S128x768_S768x256_S128x256_1_0_0_1_n_n, sums_640_apply, sums_768_apply]

theorem block_2_lo (x0 x1 x2 : Vec Ideal S1x4x768x128 .fp8e4m3) (x3 x4 x5 : Vec Ideal S1x1x4x768 .f32) (s : Vec Ideal S768x768 .f32) (h : Fin 4)
    (r : Fin 128) (d : Fin 128) :
    block_2 x0 x1 x2 x3 x4 x5 s h (ix3 0 ⟨r.val, by omega⟩ d) =
      headVal x0 x1 x2 x3 x4 x5 s h 640 (by omega) ⟨512 + r.val, by omega⟩ d := by
  unfold block_2
  rw [slab_2_apply]
  simp only [dif_pos r.isLt, mul_zero, Finset.sum_const_zero, add_zero, vals_apply, soft_640_apply, lo_2_apply]
  rfl

theorem block_2_hi (x0 x1 x2 : Vec Ideal S1x4x768x128 .fp8e4m3) (x3 x4 x5 : Vec Ideal S1x1x4x768 .f32) (s : Vec Ideal S768x768 .f32) (h : Fin 4)
    (r : Fin 128) (d : Fin 128) :
    block_2 x0 x1 x2 x3 x4 x5 s h (ix3 0 ⟨128 + r.val, by omega⟩ d) =
      headVal x0 x1 x2 x3 x4 x5 s h 768 (by omega) ⟨640 + r.val, by omega⟩ d := by
  unfold block_2
  rw [slab_2_apply]
  have hr : ¬ 128 + r.val < 128 := by omega
  simp only [dif_neg hr, Nat.add_sub_cancel_left, vals_apply, soft_768_apply, hi_2_apply]
  have e := Fin.sum_univ_add (a := 640) (b := 128) (fun k : Fin 768 =>
    x2 (ix4 0 h (k.castLE (by omega)) d) * x5 (ix4 0 0 h (k.castLE (by omega))) *
      weight x0 x1 x3 x4 s h 768 (by omega) (k.castLE (by omega)) ⟨640 + r.val, by omega⟩)
  exact congrArg (fun z => z * Ideal.div 1 (∑ k : Fin 768,
    weight x0 x1 x3 x4 s h 768 (by omega) (k.castLE (by omega)) ⟨640 + r.val, by omega⟩)) e.symm

end Cert.KernelIdeal.Gen

end
-- ==== Proof.OutRead.lean ====
module

public import proofs.«01_k».proof.Proof.BlockRead0
public import proofs.«01_k».proof.Proof.BlockRead1
public import proofs.«01_k».proof.Proof.BlockRead2
public import proofs.«01_k».proof.Proof.Cover
public import Idealize.ShloMosaic.Lib.Pipeline.Value
public import Idealize.ShloMosaic.Lib.Pipeline.ValueKit.Tiles

/-! The output block of a grid point, entry by entry. -/

@[expose] public section

set_option maxRecDepth 16384

noncomputable section

namespace Cert.KernelIdeal.Gen

open Idealize.ShloMosaic Idealize.ShloMosaic.TcCoe

variable (x0 x1 x2 : Vec Ideal S1x4x768x128 .fp8e4m3) (x3 x4 x5 : Vec Ideal S1x1x4x768 .f32) (s : Vec Ideal S768x768 .f32)

theorem headVal_congr {h h' : Fin 4} {n n' : ℕ} (hn : n ≤ 768) (hn' : n' ≤ 768) {q q' : Fin 768} {d d' : Fin 128}
    (eh : h.val = h'.val) (en : n = n') (eq : q.val = q'.val) (ed : d.val = d'.val) :
    headVal x0 x1 x2 x3 x4 x5 s h n hn q d = headVal x0 x1 x2 x3 x4 x5 s h' n' hn' q' d' := by
  obtain rfl := Fin.ext eh
  obtain rfl := Fin.ext eq
  obtain rfl := Fin.ext ed
  subst en
  rfl

/-- The entry of the output block for query `q` in column `c`: head `c / 128`, lane `c % 128`, over the keys of the
    query's 128-blocks up to its own. -/
def outVal (q : Fin 768) (c : Fin 512) : EReal :=
  headVal x0 x1 x2 x3 x4 x5 s ⟨c.val / 128, by omega⟩ (128 * (q.val / 128 + 1)) (by omega) q ⟨c.val % 128, by omega⟩

/-- The same as a function of the block's index. -/
def outFun (y : S1x768x512.Idx) : EReal := outVal x0 x1 x2 x3 x4 x5 s (y 1) (y 2)

theorem div_of_eq {h c m : ℕ} (hc : c < 128) (e : m = 128 * h + c) : h = m / 128 := by omega
theorem mod_of_eq {h c m : ℕ} (hc : c < 128) (e : m = 128 * h + c) : c = m % 128 := by omega
theorem blk_of_eq {a c m : ℕ} (hc : c < 128) (e : m = 128 * a + c) : 128 * (a + 1) = 128 * (m / 128 + 1) := by omega

theorem slab_0_at (h : Fin 4) (inb : ∀ a, (![0, 0, 128 * h.val] : Fin 3 → ℕ) a + (![1, 256, 128] : Fin 3 → ℕ) a ≤ S1x768x512.size a)
    (x : (Rect.unit (s := S1x768x512) ![0, 0, 128 * h.val] ![1, 256, 128] inb).shape.Idx) :
    block_0 x0 x1 x2 x3 x4 x5 s h x =
      outFun x0 x1 x2 x3 x4 x5 s ((Rect.unit (s := S1x768x512) ![0, 0, 128 * h.val] ![1, 256, 128] inb).emb x) := by
  have e1 := Rect.idx_unit_val (s := S1x768x512) ![0, 0, 128 * h.val] ![1, 256, 128] inb x 1
  have e2 := Rect.idx_unit_val (s := S1x768x512) ![0, 0, 128 * h.val] ![1, 256, 128] inb x 2
  have d2 : (x 2).val < 128 := (x 2).isLt
  have d1 : (x 1).val < 256 := (x 1).isLt
  have x0e : x = ix3 (n0 := 1) (n1 := 256) (n2 := 128) 0 (x 1) (x 2) := by
    refine (eq_ix3 (n0 := 1) (n1 := 256) (n2 := 128) x).trans ?_
    congr 1
    exact Subsingleton.elim (α := Fin 1) _ _
  unfold outFun outVal
  by_cases hr : (x 1).val < 128
  · refine (congrArg _ (x0e.trans ?_)).trans ((block_0_lo x0 x1 x2 x3 x4 x5 s h ⟨(x 1).val, hr⟩ (x 2)).trans ?_)
    · rfl
    · refine headVal_congr _ _ _ _ _ _ _ _ _ ?_ ?_ ?_ ?_
      · exact div_of_eq d2 e2
      · exact blk_of_eq (a := 0) hr e1
      · exact e1.symm
      · exact mod_of_eq d2 e2
  · refine (congrArg _ (x0e.trans ?_)).trans ((block_0_hi x0 x1 x2 x3 x4 x5 s h ⟨(x 1).val - 128, by omega⟩ (x 2)).trans ?_)
    · congr 1
      exact Fin.ext (show (x 1).val = 128 + ((x 1).val - 128) by omega)
    · refine headVal_congr _ _ _ _ _ _ _ _ _ ?_ ?_ ?_ ?_
      · exact div_of_eq d2 e2
      · exact blk_of_eq (a := 1) (c := (x 1).val - 128) (by omega) (e1.trans (show 0 + (x 1).val = 128 * 1 + ((x 1).val - 128) by omega))
      · exact (show 128 + ((x 1).val - 128) = 0 + (x 1).val by omega).trans e1.symm
      · exact mod_of_eq d2 e2

theorem slab_1_at (h : Fin 4) (inb : ∀ a, (![0, 256, 128 * h.val] : Fin 3 → ℕ) a + (![1, 256, 128] : Fin 3 → ℕ) a ≤ S1x768x512.size a)
    (x : (Rect.unit (s := S1x768x512) ![0, 256, 128 * h.val] ![1, 256, 128] inb).shape.Idx) :
    block_1 x0 x1 x2 x3 x4 x5 s h x =
      outFun x0 x1 x2 x3 x4 x5 s ((Rect.unit (s := S1x768x512) ![0, 256, 128 * h.val] ![1, 256, 128] inb).emb x) := by
  have e1 := Rect.idx_unit_val (s := S1x768x512) ![0, 256, 128 * h.val] ![1, 256, 128] inb x 1
  have e2 := Rect.idx_unit_val (s := S1x768x512) ![0, 256, 128 * h.val] ![1, 256, 128] inb x 2
  have d2 : (x 2).val < 128 := (x 2).isLt
  have d1 : (x 1).val < 256 := (x 1).isLt
  have x0e : x = ix3 (n0 := 1) (n1 := 256) (n2 := 128) 0 (x 1) (x 2) := by
    refine (eq_ix3 (n0 := 1) (n1 := 256) (n2 := 128) x).trans ?_
    congr 1
    exact Subsingleton.elim (α := Fin 1) _ _
  unfold outFun outVal
  by_cases hr : (x 1).val < 128
  · refine (congrArg _ (x0e.trans ?_)).trans ((block_1_lo x0 x1 x2 x3 x4 x5 s h ⟨(x 1).val, hr⟩ (x 2)).trans ?_)
    · rfl
    · refine headVal_congr _ _ _ _ _ _ _ _ _ ?_ ?_ ?_ ?_
      · exact div_of_eq d2 e2
      · exact blk_of_eq (a := 2) hr e1
      · exact e1.symm
      · exact mod_of_eq d2 e2
  · refine (congrArg _ (x0e.trans ?_)).trans ((block_1_hi x0 x1 x2 x3 x4 x5 s h ⟨(x 1).val - 128, by omega⟩ (x 2)).trans ?_)
    · congr 1
      exact Fin.ext (show (x 1).val = 128 + ((x 1).val - 128) by omega)
    · refine headVal_congr _ _ _ _ _ _ _ _ _ ?_ ?_ ?_ ?_
      · exact div_of_eq d2 e2
      · exact blk_of_eq (a := 3) (c := (x 1).val - 128) (by omega) (e1.trans (show 256 + (x 1).val = 128 * 3 + ((x 1).val - 128) by omega))
      · exact (show 384 + ((x 1).val - 128) = 256 + (x 1).val by omega).trans e1.symm
      · exact mod_of_eq d2 e2

theorem slab_2_at (h : Fin 4) (inb : ∀ a, (![0, 512, 128 * h.val] : Fin 3 → ℕ) a + (![1, 256, 128] : Fin 3 → ℕ) a ≤ S1x768x512.size a)
    (x : (Rect.unit (s := S1x768x512) ![0, 512, 128 * h.val] ![1, 256, 128] inb).shape.Idx) :
    block_2 x0 x1 x2 x3 x4 x5 s h x =
      outFun x0 x1 x2 x3 x4 x5 s ((Rect.unit (s := S1x768x512) ![0, 512, 128 * h.val] ![1, 256, 128] inb).emb x) := by
  have e1 := Rect.idx_unit_val (s := S1x768x512) ![0, 512, 128 * h.val] ![1, 256, 128] inb x 1
  have e2 := Rect.idx_unit_val (s := S1x768x512) ![0, 512, 128 * h.val] ![1, 256, 128] inb x 2
  have d2 : (x 2).val < 128 := (x 2).isLt
  have d1 : (x 1).val < 256 := (x 1).isLt
  have x0e : x = ix3 (n0 := 1) (n1 := 256) (n2 := 128) 0 (x 1) (x 2) := by
    refine (eq_ix3 (n0 := 1) (n1 := 256) (n2 := 128) x).trans ?_
    congr 1
    exact Subsingleton.elim (α := Fin 1) _ _
  unfold outFun outVal
  by_cases hr : (x 1).val < 128
  · refine (congrArg _ (x0e.trans ?_)).trans ((block_2_lo x0 x1 x2 x3 x4 x5 s h ⟨(x 1).val, hr⟩ (x 2)).trans ?_)
    · rfl
    · refine headVal_congr _ _ _ _ _ _ _ _ _ ?_ ?_ ?_ ?_
      · exact div_of_eq d2 e2
      · exact blk_of_eq (a := 4) hr e1
      · exact e1.symm
      · exact mod_of_eq d2 e2
  · refine (congrArg _ (x0e.trans ?_)).trans ((block_2_hi x0 x1 x2 x3 x4 x5 s h ⟨(x 1).val - 128, by omega⟩ (x 2)).trans ?_)
    · congr 1
      exact Fin.ext (show (x 1).val = 128 + ((x 1).val - 128) by omega)
    · refine headVal_congr _ _ _ _ _ _ _ _ _ ?_ ?_ ?_ ?_
      · exact div_of_eq d2 e2
      · exact blk_of_eq (a := 5) (c := (x 1).val - 128) (by omega) (e1.trans (show 512 + (x 1).val = 128 * 5 + ((x 1).val - 128) by omega))
      · exact (show 640 + ((x 1).val - 128) = 512 + (x 1).val by omega).trans e1.symm
      · exact mod_of_eq d2 e2

theorem outB_apply (y : S1x768x512.Idx) :
    outB x0 x1 x2 x3 x4 x5 s y = outFun x0 x1 x2 x3 x4 x5 s y := by
  refine View.canon_apply_of_pieces (outFun x0 x1 x2 x3 x4 x5 s) _ ?_ y (outPieces_cover x0 x1 x2 x3 x4 x5 s y)
  unfold outPieces
  simp only [List.forall_mem_cons]
  refine ⟨?_, ?_, ?_, ?_, ?_, ?_, ?_, ?_, ?_, ?_, ?_, ?_, fun p hp => absurd hp List.not_mem_nil⟩
  · exact fun x => (congrFun (head_3_2_eq x0 x1 x2 x3 x4 x5 s) x).trans (slab_2_at x0 x1 x2 x3 x4 x5 s 3 _ x)
  · exact fun x => (congrFun (head_3_1_eq x0 x1 x2 x3 x4 x5 s) x).trans (slab_1_at x0 x1 x2 x3 x4 x5 s 3 _ x)
  · exact fun x => (congrFun (head_3_0_eq x0 x1 x2 x3 x4 x5 s) x).trans (slab_0_at x0 x1 x2 x3 x4 x5 s 3 _ x)
  · exact fun x => (congrFun (head_2_2_eq x0 x1 x2 x3 x4 x5 s) x).trans (slab_2_at x0 x1 x2 x3 x4 x5 s 2 _ x)
  · exact fun x => (congrFun (head_2_1_eq x0 x1 x2 x3 x4 x5 s) x).trans (slab_1_at x0 x1 x2 x3 x4 x5 s 2 _ x)
  · exact fun x => (congrFun (head_2_0_eq x0 x1 x2 x3 x4 x5 s) x).trans (slab_0_at x0 x1 x2 x3 x4 x5 s 2 _ x)
  · exact fun x => (congrFun (head_1_2_eq x0 x1 x2 x3 x4 x5 s) x).trans (slab_2_at x0 x1 x2 x3 x4 x5 s 1 _ x)
  · exact fun x => (congrFun (head_1_1_eq x0 x1 x2 x3 x4 x5 s) x).trans (slab_1_at x0 x1 x2 x3 x4 x5 s 1 _ x)
  · exact fun x => (congrFun (head_1_0_eq x0 x1 x2 x3 x4 x5 s) x).trans (slab_0_at x0 x1 x2 x3 x4 x5 s 1 _ x)
  · exact fun x => (congrFun (head_0_2_eq x0 x1 x2 x3 x4 x5 s) x).trans (slab_2_at x0 x1 x2 x3 x4 x5 s 0 _ x)
  · exact fun x => (congrFun (head_0_1_eq x0 x1 x2 x3 x4 x5 s) x).trans (slab_1_at x0 x1 x2 x3 x4 x5 s 0 _ x)
  · exact fun x => (congrFun (head_0_0_eq x0 x1 x2 x3 x4 x5 s) x).trans (slab_0_at x0 x1 x2 x3 x4 x5 s 0 _ x)

end Cert.KernelIdeal.Gen

end
-- ==== Proof.PointVal.lean ====
module

public import proofs.«01_k».proof.Proof.Spec
public import proofs.«01_k».proof.Proof.Blocks
public import proofs.«01_k».proof.Proof.TileCanon
public import proofs.«01_k».proof.Proof.OutRead

/-! What one point of the idealized kernel stores, in the reals. -/

@[expose] public section

set_option maxRecDepth 16384

noncomputable section

namespace Cert.KernelIdeal.Gen

open Idealize.ShloMosaic Idealize.ShloMosaic.TcCoe Cert.Spec

/-- The arguments of device `c`, read as reals. -/
def ReadsAt (m : (ℓ : Loc nD τ sig) → Buf (Elt Ideal) ℓ) (c : Dev nD) (A : Args) : Prop :=
  Reads (m ((c.tc : Thread nD τ).loc main_arg0)) (m ((c.tc : Thread nD τ).loc main_arg1))
    (m ((c.tc : Thread nD τ).loc main_arg2)) (m ((c.tc : Thread nD τ).loc main_arg3)) A

variable (m : (ℓ : Loc nD τ sig) → Buf (Elt Ideal) ℓ) (c : Dev nD) (A : Args) (hA : ReadsAt m c A)

/-- The scaled values of a head's column, one per key. -/
def vcolAt (b : Fin 2) (h : Fin 32) (d : Fin 128) (k : Fin 768) : EReal :=
  vcol (m ((c.tc : Thread nD τ).loc main_arg4)) (m ((c.tc : Thread nD τ).loc main_arg5)) b h d k

/-- The products of a query's and a key's codes, summed. -/
def dots (x0 x1 : Vec Ideal S1x4x768x128 .fp8e4m3) (h : Fin 4) (k q : Fin 768) : EReal :=
  ∑ d : Fin 128, x1 (ix4 0 h k d) * x0 (ix4 0 h q d)

include hA in
theorem dot_real (t : Fin cfg0.N) (h : Fin 4) (k q : Fin 768) :
    dots (iblk m c 0 t) (iblk m c 1 t) h k q =
      ((∑ d : Fin 128, A.Q (bt t) q (hd t h) d * A.K (bt t) k (hd t h) d : ℝ) : EReal) := by
  unfold dots
  rw [coe_sum_real]
  refine Finset.sum_congr rfl fun d _ => ?_
  rw [iblk0_apply, iblk1_apply, hA.q, hA.k, ← EReal.coe_mul, mul_comm]

include hA in
theorem logit0_real (t : Fin cfg0.N) (h0 : t.val % 8 = 0) (k q : Fin 768) :
    logit0 (iblk m c 0 t) (iblk m c 1 t) (iblk m c 3 t) (iblk m c 4 t) k q = (A.logit0 (bt t) k q : EReal) := by
  have hh : hd t 0 = 0 := Fin.ext (show t.val % 8 * 4 + 0 = 0 by omega)
  unfold logit0
  refine (congrArg (fun z => z * _ * _ * _) (dot_real m c A hA t 0 k q)).trans ?_
  rw [iblk3_apply, iblk4_apply, hA.qs, hA.ks, ofBits_smScale, ← EReal.coe_mul, ← EReal.coe_mul,
    ← EReal.coe_mul, hh]
  rfl

include hA in
theorem score_real (t : Fin cfg0.N) (s : Vec Ideal S768x768 .f32) (h : Fin 4) (k q : Fin 768)
    (hs : s (ix2 k q) = penVal (A.logit0 (bt t)) k q) :
    score (iblk m c 0 t) (iblk m c 1 t) (iblk m c 3 t) (iblk m c 4 t) s h k q =
      if k.val ≤ q.val then
        (((A.logit (bt t) (hd t h) q k - A.pen (bt t) k q) * (Real.log 2)⁻¹ : ℝ) : EReal) else ⊥ := by
  have hn : Named.named (F := Ideal) (φ := .f32) κ "sm_scale_log2e" 0x3E0293EE#32 = ((smScale * (Real.log 2)⁻¹ : ℝ) : EReal) :=
    IdealRules.named_const.ideal_named_scalar _ _ _ _ rfl
  unfold score
  refine (congrArg (fun z => z * _ * _ - _) (dot_real m c A hA t h k q)).trans ?_
  rw [iblk3_apply, iblk4_apply, hA.qs, hA.ks, hs, hn]
  unfold penVal
  split_ifs with hkq
  · rw [← EReal.coe_mul, ← EReal.coe_mul, ← EReal.coe_mul, ← EReal.coe_sub]
    congr 1
    unfold Args.pen Args.logit
    ring
  · rw [← EReal.coe_mul, ← EReal.coe_mul, ← EReal.coe_mul]
    exact EReal.sub_top _

include hA in
theorem outVal_real (t : Fin cfg0.N) (s : Vec Ideal S768x768 .f32)
    (hs : ∀ k q : Fin 768, k.val / 128 ≤ q.val / 128 → s (ix2 k q) = penVal (A.logit0 (bt t)) k q) (q : Fin 768) (r : Fin 512) :
    outVal (iblk m c 0 t) (iblk m c 1 t) (iblk m c 2 t) (iblk m c 3 t) (iblk m c 4 t) (iblk m c 5 t) s q r =
      A.out (vcolAt m c (bt t) (hd t ⟨r.val / 128, by omega⟩) ⟨r.val % 128, by omega⟩) (bt t) (hd t ⟨r.val / 128, by omega⟩) q := by
  have hq := q.isLt
  have key := attn_base_two (fun k => vcolAt m c (bt t) (hd t ⟨r.val / 128, by omega⟩) ⟨r.val % 128, by omega⟩ k)
    (fun k => A.logit (bt t) (hd t ⟨r.val / 128, by omega⟩) q k - A.pen (bt t) k q)
    (fun k => score (iblk m c 0 t) (iblk m c 1 t) (iblk m c 3 t) (iblk m c 4 t) s ⟨r.val / 128, by omega⟩ k q) q
    (n := 128 * (q.val / 128 + 1)) (by omega) (by omega)
    (fun k hk => score_real m c A hA t s _ k q (hs k q (by omega)))
  unfold Args.out
  rw [← key]
  unfold outVal headVal weight topScore
  simp only [iblk2_apply, iblk5_apply, ofBits_negInf]
  rfl

end Cert.KernelIdeal.Gen

end
-- ==== Proof.KernelVal.lean ====
module

public import proofs.«01_k».proof.Proof.PointVal
public import Idealize.ShloMosaic.Lib.Pipeline.ArrRel

/-! What the idealized kernel leaves in its two result arrays, in the reals. -/

@[expose] public section

set_option maxRecDepth 16384

noncomputable section

namespace Cert.KernelIdeal.Gen

open Idealize.ShloMosaic Idealize.ShloMosaic.TcCoe Cert.Spec
open Idealize.ShloMosaic.Pipeline (Dat RDat Cfg Window)

variable (m : (ℓ : Loc nD τ sig) → Buf (Elt Ideal) ℓ) (c : Dev nD) (A : Args) (hA : ReadsAt m c A)

/-- The first result as an array of device `c`. -/
def outAt : Vec Ideal S2x768x4096 .bf16 :=
  outArr (m ((c.tc : Thread nD τ).loc main_arg4)) (m ((c.tc : Thread nD τ).loc main_arg5)) A

theorem out_congr {vc vc' : Fin 768 → EReal} {b b' : Fin 2} {h h' : Fin 32} {q q' : Fin 768} (e0 : vc = vc') (e1 : b = b')
    (e2 : h = h') (e3 : q = q') : A.out vc b h q = A.out vc' b' h' q' := by subst e0 e1 e2 e3; rfl

include hA in
/-- The block a point stores holds its part of the first result. -/
theorem leftOut_apply (t : Fin cfg0.N) (X : Vec Ideal S1x768x512 .bf16) (hX : LeftOut m c t X) (y : S1x768x512.Idx)
    (i : S2x768x4096.Idx) (h0 : (i 0).val = t.val / 8) (h1 : (i 1).val = (y 1).val)
    (h2 : (i 2).val = t.val % 8 * 512 + (y 2).val) : X y = outAt m c A i := by
  obtain ⟨s, hs, rfl⟩ := hX
  have ht : t.val < 16 := t.isLt
  have hy2 : (y 2).val < 512 := (y 2).isLt
  have ht0 : t.val - t.val % 8 < cfg0.N := Nat.lt_of_le_of_lt (Nat.sub_le _ _) t.isLt
  have hb : bt ⟨t.val - t.val % 8, ht0⟩ = bt t := Fin.ext (show (t.val - t.val % 8) / 8 = t.val / 8 by omega)
  have hag := hs ⟨t.val - t.val % 8, ht0⟩ rfl
  have hs' : ∀ k q : Fin 768, k.val / 128 ≤ q.val / 128 → s (ix2 k q) = penVal (A.logit0 (bt t)) k q := by
    intro k q hkq
    refine (hag (ix2 k q) (tiles_cover _ _ _ _ k q hkq)).trans ?_
    refine (tiles_apply (A.logit0 (bt ⟨t.val - t.val % 8, ht0⟩))
      (logit0_real m c A hA _ (show (t.val - t.val % 8) % 8 = 0 by omega)) k q hkq).trans ?_
    rw [hb]
  refine (outB_apply _ _ _ _ _ _ s y).trans ?_
  refine (outVal_real m c A hA t s hs' (y 1) (y 2)).trans ?_
  have e0 : bt t = i 0 := Fin.ext h0.symm
  have e1 : y 1 = i 1 := Fin.ext h1.symm
  have e2 : hd t ⟨(y 2).val / 128, by omega⟩ = ⟨(i 2).val / 128, Nat.div_lt_of_lt_mul (i 2).isLt⟩ :=
    Fin.ext (show t.val % 8 * 4 + (y 2).val / 128 = (i 2).val / 128 by omega)
  have e3 : (⟨(y 2).val % 128, by omega⟩ : Fin 128) = ⟨(i 2).val % 128, Nat.mod_lt _ (by decide)⟩ :=
    Fin.ext (show (y 2).val % 128 = (i 2).val % 128 by omega)
  unfold outAt outArr
  refine out_congr A ?_ e0 e2 e1
  show vcol _ _ _ _ _ = _
  exact congr (congr (congrArg _ e0) e2) e3

include hA in
/-- The first result's array after the run. -/
theorem arr6_eq (r : PUnit × MemSt nD τ sig (Elt Ideal)) (h : RDat.FramePost (cfgs 0) (rdat m) (V m) r) :
    r.2.mem ((c.tc : Thread nD τ).loc main_v11_0) = outAt m c A := by
  obtain ⟨after, hl, ha⟩ := RDat.FramePost.exists_exact h c
  refine (ha 6).trans ?_
  refine ((rdat m c).withAfter after).arrAt_eq_of_covers 6 (outAt m c A) (by decide +kernel) fun t hf y => ?_
  obtain ⟨Y, -, hX⟩ := hl 6 t hf
  have hX' : LeftOut m c t (after 6 t) := hX
  refine leftOut_apply m c A hA t _ hX' _ _ ?_ ?_ ?_ <;> blk_simp [(idx0 t).2.2.2.2.2.2.1]

/-- A row put into the second result's block, read in that row and in the other. -/
theorem put_row (Y : Vec Ideal S2x768 .f32) (w : Vec Ideal S1x768 .f32) (n : Fin 2) (k : Fin 768) (r : Fin 2) :
    VecWindow.put Y ![n.val, 0] ![1, 768] w (ix2 r k) = if r = n then w (ix2 0 k) else Y (ix2 r k) := by
  unfold VecWindow.put
  have hiff : (∀ a, (![n.val, 0] : Fin 2 → ℕ) a ≤ ((ix2 r k : S2x768.Idx) a).val ∧
      ((ix2 r k : S2x768.Idx) a).val < (![n.val, 0] : Fin 2 → ℕ) a + (![1, 768] : Fin 2 → ℕ) a) ↔ r = n := by
    constructor
    · intro h
      have h0 : n.val ≤ r.val ∧ r.val < n.val + 1 := h 0
      exact Fin.ext (by omega)
    · rintro rfl a
      match a with
      | ⟨0, _⟩ => exact (show r.val ≤ r.val ∧ r.val < r.val + 1 by omega)
      | ⟨1, _⟩ => exact (show 0 ≤ k.val ∧ k.val < 0 + 768 by omega)
  by_cases hr : r = n
  · rw [dif_pos (hiff.mpr hr), if_pos hr]
    refine congrArg w ((eq_ix2 (n0 := 1) (n1 := 768) _).trans ?_)
    congr 1
    exact Subsingleton.elim (α := Fin 1) _ _
  · rw [dif_neg (fun h => hr (hiff.mp h)), if_neg hr]

include hA in
/-- The row that the first point of a batch stores. -/
theorem selRow_at_point (t : Fin cfg0.N) (h0 : t.val % 8 = 0) (k : Fin 768) :
    selRow (iblk m c 0 t) (iblk m c 1 t) (iblk m c 3 t) (iblk m c 4 t) (ix2 0 k) = ((A.sel (bt t) k : ℝ) : EReal) := by
  have hk : k = at6 ⟨k.val / 128, by omega⟩ ⟨k.val % 128, by omega⟩ := Fin.ext (show k.val = 128 * (k.val / 128) + k.val % 128 by omega)
  rw [hk]
  exact selRow_real (A.logit0 (bt t)) (logit0_real m c A hA t h0) _ _

include hA in
/-- The second result's block after each point: row 0 is stored, and row 1 from the second batch on. -/
theorem leavesSel (n : ℕ) : ∀ (t : Fin cfg0.N) (X : Vec Ideal S2x768 .f32), t.val = n → (rdat m c).Leaves 7 t X →
    (∀ k, X (ix2 0 k) = ((A.sel 0 k : ℝ) : EReal)) ∧ (8 ≤ n → ∀ k, X (ix2 1 k) = ((A.sel 1 k : ℝ) : EReal)) := by
  induction n with
  | zero =>
    rintro t X ht ⟨Y, -, hX⟩
    have hX' : LeftSel m c t Y X := hX
    have e : X = VecWindow.put Y ![(0 : Fin 2).val, 0] ![1, 768] _ := hX'.1 ht
    refine ⟨fun k => ?_, fun h => absurd h (by omega)⟩
    rw [e, put_row, if_pos rfl, selRow_at_point m c A hA t (by omega),
      show bt t = 0 from Fin.ext (show t.val / 8 = 0 by omega)]
  | succ n ih =>
    rintro t X ht ⟨Y, hY, hX⟩
    have hX' : LeftSel m c t Y X := hX
    have hN : t.val < 16 := t.isLt
    have hfetch : (cfg0.win 7).fetch t = false :=
      (by decide +kernel : ∀ t : Fin cfg0.N, (cfg0.win 7).fetch t = false) t
    have hY' := ((rdat m c).finds_of_pos hfetch (by omega) Y).mp hY
    have hl : (rdat m c).Leaves 7 ⟨t.val - 1, Nat.lt_of_le_of_lt (Nat.sub_le _ _) t.isLt⟩ Y := by
      refine hY'.resolve_left fun hf => ?_
      have := (flush0_7 _).mp hf
      have h' : (t.val - 1) % 16 = 15 := this
      omega
    have hprev := ih _ Y (show t.val - 1 = n by omega) hl
    by_cases h8 : t.val = 8
    · have e : X = VecWindow.put Y ![(1 : Fin 2).val, 0] ![1, 768] _ := hX'.2.1 h8
      refine ⟨fun k => ?_, fun _ k => ?_⟩
      · rw [e, put_row, if_neg (by decide)]
        exact hprev.1 k
      · rw [e, put_row, if_pos rfl, selRow_at_point m c A hA t (by omega),
          show bt t = 1 from Fin.ext (show t.val / 8 = 1 by omega)]
    · have e : X = Y := hX'.2.2 (by omega)
      rw [e]
      exact ⟨hprev.1, fun h => hprev.2 (by omega)⟩

include hA in
/-- The second result's array after the run. -/
theorem arr7_eq (r : PUnit × MemSt nD τ sig (Elt Ideal)) (h : RDat.FramePost (cfgs 0) (rdat m) (V m) r) :
    r.2.mem ((c.tc : Thread nD τ).loc main_v11_1) = (selArr A : Vec Ideal S2x768 .f32) := by
  obtain ⟨X, hX, hj⟩ := RDat.ArrAt.emb_eq_of_wholeAt ((h c).1 7) (t₀ := t0_15) (by decide +kernel)
  have hv := leavesSel m c A hA 15 t0_15 X rfl hX
  funext i
  refine (hj i).trans ?_
  have hi : i = ix2 (n0 := 2) (n1 := 768) (i 0) (i 1) := eq_ix2 (n0 := 2) (n1 := 768) i
  have e : ∀ (b : Fin 2) (k : Fin 768), X (ix2 b k) = ((A.sel b k : ℝ) : EReal) := fun b k =>
    match b with
    | ⟨0, _⟩ => hv.1 k
    | ⟨1, _⟩ => hv.2 (by decide) k
  refine Eq.trans (congrArg X ?_) (e (i 0) (i 1))
  exact hi

end Cert.KernelIdeal.Gen

end
-- ==== Proof.RefMath.lean ====
module

public import proofs.«01_k».proof.Proof.Gen.ReferenceIdeal.Read
public import proofs.«01_k».proof.Proof.Spec
public import Idealize.ShloMosaic.Lib.Pointwise
public import Idealize.ShloMosaic.Lib.WordCmp

/-! The reference's logits, selection weights and their running sums, in the reals. -/

@[expose] public section

set_option maxRecDepth 16384

noncomputable section

namespace Cert.ReferenceIdeal.Read

open Idealize.ShloMosaic Idealize.ShloMosaic.TcCoe Cert.Spec Cert.ReferenceIdeal.Gen
open Cert.KernelIdeal.Gen (coe_sum_real select_ofBool selR)

/-! ## A running sum over an axis -/

theorem foldl_add {α : Type} (g : α → EReal) : ∀ (l : List α) (r : EReal), l.foldl (fun r n => r + g n) r = r + (l.map g).sum
  | [], r => by simp
  | a :: l, r => by rw [List.foldl_cons, foldl_add g l, List.map_cons, List.sum_cons, add_assoc]

/-- Indices of a window that spans the middle axis only. -/
def midEquiv : (⟨3, ![1, 768, 1]⟩ : Shape).Idx ≃ Fin 768 where
  toFun w := w 1
  invFun n := ix3 0 n 0
  left_inv w := by
    refine Eq.trans ?_ (eq_ix3 (n0 := 1) (n1 := 768) (n2 := 1) w).symm
    have e0 : (0 : Fin 1) = w 0 := Subsingleton.elim (α := Fin 1) _ _
    have e2 : (0 : Fin 1) = w 2 := Subsingleton.elim (α := Fin 1) _ _
    exact congr (congrArg (fun z => ix3 (n0 := 1) (n1 := 768) (n2 := 1) z (w 1)) e0) e2
  right_inv n := rfl

theorem sum_shift (Z : ℕ → EReal) (q : ℕ) (hq : q < 768) :
    (∑ n ∈ Finset.range 768, if 767 ≤ q + n then Z (q + n - 767) else 0) = ∑ j ∈ Finset.range (q + 1), Z j := by
  have e : 768 = (767 - q) + (q + 1) := by omega
  rw [e, Finset.sum_range_add]
  have h0 : (∑ n ∈ Finset.range (767 - q), if 767 ≤ q + n then Z (q + n - 767) else 0) = 0 :=
    Finset.sum_eq_zero fun n hn => if_neg (by have := Finset.mem_range.mp hn; omega)
  rw [h0, zero_add]
  refine Finset.sum_congr rfl fun j _ => ?_
  rw [if_pos (by omega)]
  exact congrArg Z (by omega)

/-- One position of the window: an entry of the array, or padding. -/
theorem window_at (y : Vec Ideal S2x768x768 .f32) (Z : ℕ → EReal) (b : Fin 2) (q k : Fin 768)
    (hZ : ∀ j : Fin 768, y (ix3 b j k) = Z j.val) (w : (⟨3, ![1, 768, 1]⟩ : Shape).Idx)
    (dec : Decidable (∀ a : Fin 3, (![0, 767, 0] : Fin 3 → ℕ) a ≤
          ((ix3 b q k : S2x768x768.Idx) (Fin.cast rfl a)).val * (![1, 1, 1] : Fin 3 → ℕ) a + (w a).val ∧
        ((ix3 b q k : S2x768x768.Idx) (Fin.cast rfl a)).val * (![1, 1, 1] : Fin 3 → ℕ) a + (w a).val - (![0, 767, 0] : Fin 3 → ℕ) a <
          (![2, 768, 768] : Fin 3 → ℕ) a)) :
    (@dite EReal (∀ a : Fin 3, (![0, 767, 0] : Fin 3 → ℕ) a ≤
          ((ix3 b q k : S2x768x768.Idx) (Fin.cast rfl a)).val * (![1, 1, 1] : Fin 3 → ℕ) a + (w a).val ∧
        ((ix3 b q k : S2x768x768.Idx) (Fin.cast rfl a)).val * (![1, 1, 1] : Fin 3 → ℕ) a + (w a).val - (![0, 767, 0] : Fin 3 → ℕ) a <
          (![2, 768, 768] : Fin 3 → ℕ) a) dec (fun hin =>
      y fun a => ⟨((ix3 b q k : S2x768x768.Idx) (Fin.cast rfl a)).val * (![1, 1, 1] : Fin 3 → ℕ) a + (w a).val -
        (![0, 767, 0] : Fin 3 → ℕ) a, (hin a).2⟩) fun _ => 0) =
      if 767 ≤ q.val + (w 1).val then Z (q.val + (w 1).val - 767) else 0 := by
  have hb := b.isLt; have hq := q.isLt; have hk := k.isLt
  have w0 : (w 0).val = 0 := Nat.lt_one_iff.mp (w 0).isLt
  have w2 : (w 2).val = 0 := Nat.lt_one_iff.mp (w 2).isLt
  have w1 : (w 1).val < 768 := (w 1).isLt
  by_cases h : 767 ≤ q.val + (w 1).val
  · rw [if_pos h, dif_pos]
    · refine Eq.trans (congrArg y ?_) (hZ ⟨q.val + (w 1).val - 767, by omega⟩)
      refine (eq_ix3 (n0 := 2) (n1 := 768) (n2 := 768) _).trans ?_
      have f0 : b.val * 1 + (w 0).val - 0 = b.val := by omega
      have f1 : q.val * 1 + (w 1).val - 767 = q.val + (w 1).val - 767 := by omega
      have f2 : k.val * 1 + (w 2).val - 0 = k.val := by omega
      exact congr (congr (congrArg (ix3 (n0 := 2) (n1 := 768) (n2 := 768)) (Fin.ext f0)) (Fin.ext f1)) (Fin.ext f2)
    · intro a
      match a with
      | ⟨0, _⟩ => exact (show 0 ≤ b.val * 1 + (w 0).val ∧ b.val * 1 + (w 0).val - 0 < 2 by omega)
      | ⟨1, _⟩ => exact (show 767 ≤ q.val * 1 + (w 1).val ∧ q.val * 1 + (w 1).val - 767 < 768 by omega)
      | ⟨2, _⟩ => exact (show 0 ≤ k.val * 1 + (w 2).val ∧ k.val * 1 + (w 2).val - 0 < 768 by omega)
  · rw [if_neg h, dif_neg]
    intro hin
    have h1 : 767 ≤ q.val * 1 + (w 1).val := (hin 1).1
    omega

/-- A running sum over the middle axis, as the program states it: a window of the whole axis padded below. -/
theorem cumsum_apply (y : Vec Ideal S2x768x768 .f32) (init : Vec Ideal S_ .f32) (hi : ∀ i, init i = 0)
    (Z : ℕ → EReal) (b : Fin 2) (q k : Fin 768) (hZ : ∀ j : Fin 768, y (ix3 b j k) = Z j.val) :
    (Host.reduceWindowAdd (F := Ideal) (φ := .f32) ![1, 768, 1] ![1, 1, 1] ![0, 767, 0] ![0, 0, 0] y init
      reduceWindows_S2x768x768_S2x768x768_w1s1p0_0_w768s1p767_0_w1s1p0_0 h_S_ : Vec Ideal S2x768x768 .f32) (ix3 b q k) =
      ∑ j ∈ Finset.range (q.val + 1), Z j := by
  have hq := q.isLt
  rw [← sum_shift Z q.val q.isLt, Finset.sum_range]
  show Ideal.hostReduceWindowAdd ![1, 768, 1] ![1, 1, 1] ![0, 767, 0] ![0, 0, 0]
    reduceWindows_S2x768x768_S2x768x768_w1s1p0_0_w768s1p767_0_w1s1p0_0 y (init (Shape.Idx.first h_S_)) (ix3 b q k) = _
  unfold Ideal.hostReduceWindowAdd Host.reduceWindow
  dsimp only
  refine (foldl_add _ _ _).trans ?_
  rw [← Fin.sum_univ_def, hi, zero_add]
  refine Fintype.sum_equiv ((Shape.rowMajor ⟨3, ![1, 768, 1]⟩).symm.trans midEquiv) _ _ fun n => ?_
  exact window_at y Z b q k hZ ((Shape.rowMajor ⟨3, ![1, 768, 1]⟩).symm n) _

end Cert.ReferenceIdeal.Read

end
-- ==== Proof.RefLogit.lean ====
module

public import proofs.«01_k».proof.Proof.RefMath

/-! The reference's logits, selection weights, penalties and masked scores, in the reals. -/

@[expose] public section

set_option maxRecDepth 16384

noncomputable section

namespace Cert.ReferenceIdeal.Read

open Idealize.ShloMosaic Idealize.ShloMosaic.TcCoe Cert.Spec Cert.ReferenceIdeal.Gen
open Cert.KernelIdeal.Gen (coe_sum_real select_ofBool selR)

variable (x1 x3 : Vec Ideal S2x768x32 .f32) (r0 r1 : Vec Ideal S2x768x32x128 .f32) (A : Args)

/-- `A` is what the scales and the two widened code arrays hold. -/
structure Holds : Prop where
  q : ∀ b p h d, r0 (ix4 b p h d) = A.Q b p h d
  qs : ∀ b p h, x1 (ix3 b p h) = A.qs b p h
  k : ∀ b p h d, r1 (ix4 b p h d) = A.K b p h d
  ks : ∀ b p h, x3 (ix3 b p h) = A.ks b p h

variable {x1 x3 r0 r1 A} (hA : Holds x1 x3 r0 r1 A)

include hA in
theorem v10_real (b : Fin 2) (h : Fin 32) (q k : Fin 768) : val_main_v10 (F := Ideal) x1 (ix4 b h q k) = (A.qs b q h : EReal) := by
  rw [val_main_v10_apply, val_main_v4_apply, val_main_v3_apply]
  exact (congrArg x1 (eq_ix3 _)).trans (hA.qs b q h)

include hA in
theorem v12_real (b : Fin 2) (h : Fin 32) (q k : Fin 768) : val_main_v12 (F := Ideal) x3 (ix4 b h q k) = (A.ks b k h : EReal) := by
  rw [val_main_v12_apply, val_main_v6_apply, val_main_v5_apply]
  exact (congrArg x3 (eq_ix3 _)).trans (hA.ks b k h)

theorem v14_real (b : Fin 2) (h : Fin 32) (q k : Fin 768) : val_main_v14 (F := Ideal) (ix4 b h q k) = (smScale : EReal) := by
  rw [val_main_v14_apply, val_main_cst_apply]
  exact ofBits_smScale

include hA in
theorem v9_real (b : Fin 2) (h : Fin 32) (q k : Fin 768) :
    val_main_v9 (F := Ideal) r0 r1 (ix4 b h q k) = ((∑ d : Fin 128, A.Q b q h d * A.K b k h d : ℝ) : EReal) := by
  rw [val_main_v9_apply, coe_sum_real]
  refine Finset.sum_congr rfl fun d _ => ?_
  rw [EReal.coe_mul]
  exact congrArg₂ (· * ·) ((congrArg r0 (eq_ix4 _)).trans (hA.q b q h d)) ((congrArg r1 (eq_ix4 _)).trans (hA.k b k h d))

include hA in
/-- The logits. -/
theorem v15_real (b : Fin 2) (h : Fin 32) (q k : Fin 768) :
    val_main_v15 (F := Ideal) x1 x3 r0 r1 (ix4 b h q k) = (A.logit b h q k : EReal) := by
  rw [val_main_v15_apply, val_main_v13_apply, val_main_v11_apply, v9_real hA, v10_real hA, v12_real hA, v14_real]
  unfold Args.logit
  rw [EReal.coe_mul, EReal.coe_mul, EReal.coe_mul]
  rfl

/-- The key of a position. -/
theorem v19_at (k : Fin 768) (i : S1x768.Idx) (hi : (i 1).val = k.val) : val_main_v19 (F := Ideal) i = BitVec.ofNat 32 k.val := by
  rw [val_main_v19_apply, val_main_v18_apply]
  exact congrArg (BitVec.ofNat 32) hi

/-- The query of a position. -/
theorem v17_at (q : Fin 768) (i : S768x1.Idx) (hi : (i 0).val = q.val) : val_main_v17 (F := Ideal) i = BitVec.ofNat 32 q.val := by
  rw [val_main_v17_apply, val_main_v16_apply]
  exact congrArg (BitVec.ofNat 32) hi

/-- The mask of what may be selected. -/
theorem v26_at (q k : Fin 768) :
    val_main_v26 (F := Ideal) (ix2 q k) = BitVec.ofBool (decide (0 < k.val ∧ k.val < q.val)) := by
  have hk := k.isLt; have hq := q.isLt
  rw [val_main_v26_apply, val_main_v25_apply, val_main_v21_apply, val_main_v24_apply, val_main_v22_apply,
    val_main_v23_apply, val_main_v20_apply, val_main_c_apply, v19_at k _ rfl, v17_at q _ rfl,
    WordCmp.cmpi_sgt_ofNat (b := 0) (by omega) (by omega), WordCmp.cmpi_slt_ofNat (by omega) (by omega),
    WordCmp.andi_ofBool, ← Bool.decide_and]

/-- The mask of what may be attended. -/
theorem v37_at (q k : Fin 768) :
    val_main_v37 (F := Ideal) (ix2 q k) = BitVec.ofBool (decide (k.val ≤ q.val)) := by
  have hk := k.isLt; have hq := q.isLt
  rw [val_main_v37_apply, val_main_v35_apply, val_main_v36_apply, v19_at k _ rfl, v17_at q _ rfl,
    WordCmp.cmpi_sle_ofNat (by omega) (by omega)]

include hA in
/-- The selection weights. -/
theorem v31_real (b : Fin 2) (q k : Fin 768) :
    val_main_v31 (F := Ideal) x1 x3 r0 r1 (ix3 b q k) = (selR (A.logit0 b) k q.val : EReal) := by
  have hb := b.isLt; have hk := k.isLt; have hq := q.isLt
  have e0 : val_main_call0_v1 (F := Ideal) (ix3 b q k) = BitVec.ofBool (decide (0 < k.val ∧ k.val < q.val)) := by
    rw [val_main_call0_v1_apply]
    exact (congrArg (val_main_v26 (F := Ideal)) (eq_ix2 _)).trans (v26_at q k)
  have e1 : val_main_v28 (F := Ideal) x1 x3 r0 r1 (ix3 b q k) = (A.logit0 b k q : EReal) := by
    rw [val_main_v28_apply, val_main_v27_apply]
    refine Eq.trans (congrArg (val_main_v15 (F := Ideal) x1 x3 r0 r1) ?_) (v15_real hA b 0 q k)
    refine (eq_ix4 _).trans ?_
    have f0 : ((b.val * 768 + q.val) * 768 + k.val) / 589824 = b.val := by omega
    have f1 : ((b.val * 768 + q.val) * 768 + k.val) / 768 % 768 = q.val := by omega
    have f2 : ((b.val * 768 + q.val) * 768 + k.val) % 768 = k.val := by omega
    exact congr (congr (congr (congrArg ix4 (Fin.ext f0)) (Fin.ext (by rfl))) (Fin.ext f1)) (Fin.ext f2)
  have e2 : val_main_v29 (F := Ideal) (ix3 b q k) = 0 := by
    rw [val_main_v29_apply, val_main_cst_0_apply]
    exact Ideal.ofBits_zero_f32
  have e3 : val_main_call0_v2 (F := Ideal) (ix3 b q k) = 0 := by
    rw [val_main_call0_v2_apply, val_main_call0_v0_apply, val_main_cst_1_apply]
    exact Ideal.ofBits_zero_f32
  rw [val_main_v31_apply, val_main_v30_apply, e0, e1, e2, e3, select_ofBool]
  unfold selR
  rw [dif_pos hq]
  split_ifs
  · exact (EReal.coe_strictMono.monotone.map_max (a := A.logit0 b k q) (b := 0)).symm
  · rfl

include hA in
/-- The penalties. -/
theorem v33_real (b : Fin 2) (q k : Fin 768) :
    val_main_v33 (F := Ideal) x1 x3 r0 r1 (ix3 b q k) = (A.pen b k q : EReal) := by
  have e : val_main_v32 (F := Ideal) x1 x3 r0 r1 (ix3 b q k) =
      ((∑ j ∈ Finset.range (q.val + 1), selR (A.logit0 b) k j : ℝ) : EReal) := by
    unfold val_main_v32
    rw [coe_sum_real]
    refine cumsum_apply _ _ (fun i => ?_) (fun j => (selR (A.logit0 b) k j : EReal)) b q k (fun j => v31_real hA b j k)
    rw [val_main_call1_call0_v0_apply, val_main_call1_call0_cst_apply]
    exact Ideal.ofBits_zero_f32
  rw [val_main_v33_apply, e, v31_real hA, Finset.sum_range_succ]
  refine (EReal.coe_sub _ _).symm.trans ?_
  rw [add_sub_cancel_right]
  rfl

include hA in
/-- The second result. -/
theorem v34_real (b : Fin 2) (k : Fin 768) :
    val_main_v34 (F := Ideal) x1 x3 r0 r1 (ix2 b k) = (A.sel b k : EReal) := by
  have e : val_main_cst_2 (F := Ideal) (Shape.Idx.first h_S_) = 0 := by
    rw [val_main_cst_2_apply]
    exact Ideal.ofBits_zero_f32
  rw [val_main_v34_apply, e, zero_add]
  unfold Args.sel
  rw [coe_sum_real, Finset.sum_range]
  refine Finset.sum_congr rfl fun j _ => ?_
  exact (congrArg (val_main_v31 (F := Ideal) x1 x3 r0 r1) (eq_ix3 _)).trans (v31_real hA b j k)

include hA in
/-- The masked scores. -/
theorem v41_real (b : Fin 2) (h : Fin 32) (q k : Fin 768) :
    val_main_v41 (F := Ideal) x1 x3 r0 r1 (ix4 b h q k) =
      if k.val ≤ q.val then ((A.logit b h q k - A.pen b k q : ℝ) : EReal) else ⊥ := by
  have e0 : val_main_call2_v1 (F := Ideal) (ix4 b h q k) = BitVec.ofBool (decide (k.val ≤ q.val)) := by
    rw [val_main_call2_v1_apply]
    exact (congrArg (val_main_v37 (F := Ideal)) (eq_ix2 _)).trans (v37_at q k)
  have e1 : val_main_v39 (F := Ideal) x1 x3 r0 r1 (ix4 b h q k) = (A.pen b k q : EReal) := by
    rw [val_main_v39_apply, val_main_v38_apply]
    exact (congrArg (val_main_v33 (F := Ideal) x1 x3 r0 r1) (eq_ix3 _)).trans (v33_real hA b q k)
  have e2 : val_main_call2_v2 (F := Ideal) (ix4 b h q k) = ⊥ := by
    rw [val_main_call2_v2_apply, val_main_call2_v0_apply, val_main_cst_3_apply]
    exact ofBits_negInf
  rw [val_main_v41_apply, val_main_v40_apply, e0, e1, e2, v15_real hA, select_ofBool]
  split_ifs
  · exact (EReal.coe_sub _ _).symm
  · rfl

end Cert.ReferenceIdeal.Read

end
-- ==== Proof.RefOut.lean ====
module

public import proofs.«01_k».proof.Proof.RefLogit

/-! The reference's two results are the arrays of the specification. -/

@[expose] public section

set_option maxRecDepth 16384

noncomputable section

namespace Cert.ReferenceIdeal.Read

open Idealize.ShloMosaic Idealize.ShloMosaic.TcCoe Cert.Spec Cert.ReferenceIdeal.Gen
open Cert.KernelIdeal.Gen (attn soft soft_base_e)

/-- A row's maximum from `-∞`. -/
theorem rowMax_at (y : Vec Ideal S2x32x768x768 .f32) (b : Fin 2) (h : Fin 32) (q : Fin 768) :
    (Host.reduce FloatOps.maximumf y (constant (F := Ideal) S_ .f32 0xFF800000#32) reducesTo_S2x32x768x768_S2x32x768_d3 h_S_) (ix3 b h q)
      = Finset.univ.fold (FloatOps.maximumf (F := Ideal) (φ := .f32)) (FloatOps.ofBits .f32 0xFF800000#32) (fun k : Fin 768 => (y (ix4 b h q k) : Ideal .f32)) := by
  pointwise

variable {x1 x3 x5 : Vec Ideal S2x768x32 .f32} {r0 r1 : Vec Ideal S2x768x32x128 .f32} {r2 : Vec Ideal S2x768x32x128 .bf16} {A : Args}
  (hA : Holds x1 x3 r0 r1 A)

/-- The masked scores of one query. -/
abbrev row (x1 x3 : Vec Ideal S2x768x32 .f32) (r0 r1 : Vec Ideal S2x768x32x128 .f32) (b : Fin 2) (h : Fin 32) (q k : Fin 768) : EReal :=
  val_main_v41 (F := Ideal) x1 x3 r0 r1 (ix4 b h q k)

theorem v44_at (b : Fin 2) (h : Fin 32) (q : Fin 768) :
    val_main_v44 (F := Ideal) x1 x3 r0 r1 (ix3 b h q) = Finset.univ.fold max ⊥ (row x1 x3 r0 r1 b h q) := by
  rw [val_main_v44_apply, val_main_v43_apply, val_main_cst_5_apply]
  have e : val_main_v42 (F := Ideal) x1 x3 r0 r1 (ix3 b h q) = Finset.univ.fold max ⊥ (row x1 x3 r0 r1 b h q) := by
    unfold val_main_v42
    refine (rowMax_at (val_main_v41 (F := Ideal) x1 x3 r0 r1) b h q).trans ?_
    show Finset.univ.fold max (Ideal.ofBits .f32 0xFF800000#32) _ = _
    rw [ofBits_negInf]
  rw [e]
  show max (Ideal.ofBits .f32 0xFF800000#32) _ = _
  rw [ofBits_negInf]
  exact max_eq_right bot_le

theorem v48_at (b : Fin 2) (h : Fin 32) (q k : Fin 768) :
    val_main_v48 (F := Ideal) x1 x3 r0 r1 (ix4 b h q k) =
      Ideal.exp (row x1 x3 r0 r1 b h q k - Finset.univ.fold max ⊥ (row x1 x3 r0 r1 b h q)) := by
  have e : val_main_v46 (F := Ideal) x1 x3 r0 r1 (ix4 b h q k) = Finset.univ.fold max ⊥ (row x1 x3 r0 r1 b h q) := by
    rw [val_main_v46_apply, val_main_v45_apply]
    exact (congrArg (val_main_v44 (F := Ideal) x1 x3 r0 r1) (eq_ix3 _)).trans (v44_at b h q)
  rw [val_main_v48_apply, val_main_v47_apply, e]
  rfl

theorem v49_at (b : Fin 2) (h : Fin 32) (q : Fin 768) :
    val_main_v49 (F := Ideal) x1 x3 r0 r1 (ix3 b h q) =
      ∑ j, Ideal.exp (row x1 x3 r0 r1 b h q j - Finset.univ.fold max ⊥ (row x1 x3 r0 r1 b h q)) := by
  have e : val_main_cst_6 (F := Ideal) (Shape.Idx.first h_S_) = 0 := by
    rw [val_main_cst_6_apply]
    exact Ideal.ofBits_zero_f32
  rw [val_main_v49_apply, e, zero_add]
  refine Finset.sum_congr rfl fun j _ => ?_
  exact (congrArg (val_main_v48 (F := Ideal) x1 x3 r0 r1) (eq_ix4 _)).trans (v48_at b h q j)

include hA in
/-- The attention weights. -/
theorem v52_real (b : Fin 2) (h : Fin 32) (q k : Fin 768) :
    val_main_v52 (F := Ideal) x1 x3 r0 r1 (ix4 b h q k) = (soft (fun k => A.logit b h q k - A.pen b k q) q k : EReal) := by
  have e : val_main_v51 (F := Ideal) x1 x3 r0 r1 (ix4 b h q k) =
      ∑ j, Ideal.exp (row x1 x3 r0 r1 b h q j - Finset.univ.fold max ⊥ (row x1 x3 r0 r1 b h q)) := by
    rw [val_main_v51_apply, val_main_v50_apply]
    exact (congrArg (val_main_v49 (F := Ideal) x1 x3 r0 r1) (eq_ix3 _)).trans (v49_at b h q)
  rw [val_main_v52_apply, v48_at, e]
  exact soft_base_e (fun k => A.logit b h q k - A.pen b k q) (row x1 x3 r0 r1 b h q) q (fun k => v41_real hA b h q k) k

/-- The scale of a value. -/
theorem v53_at (b : Fin 2) (h : Fin 32) (q k : Fin 768) : val_main_v53 (F := Ideal) x5 (ix4 b h q k) = x5 (ix3 b k h) := by
  rw [val_main_v53_apply, val_main_v8_apply, val_main_v7_apply]
  exact congrArg x5 (eq_ix3 _)

include hA in
/-- Attention at one query and lane. -/
theorem v56_at (a4 : Vec Ideal S2x768x32x128 .fp8e4m3) (h2 : ∀ b p h d, r2 (ix4 b p h d) = a4 (ix4 b p h d))
    (b : Fin 2) (h : Fin 32) (d : Fin 128) (q : Fin 768) :
    val_main_v56 (F := Ideal) x1 x3 x5 r0 r1 r2 (ix4 b h d q) = A.out (vcol a4 x5 b h d) b h q := by
  rw [val_main_v56_apply]
  unfold Args.out attn
  refine Finset.sum_congr rfl fun k _ => ?_
  have e1 : r2 (lidx_main_v56 (ix4 b h d q) k) = a4 (ix4 b k h d) := (congrArg r2 (eq_ix4 _)).trans (h2 b k h d)
  have e2 : val_main_v55 (F := Ideal) x1 x3 x5 r0 r1 (ridx_main_v56 (ix4 b h d q) k) =
      (soft (fun k => A.logit b h q k - A.pen b k q) q k : EReal) * x5 (ix3 b k h) := by
    refine (congrArg (val_main_v55 (F := Ideal) x1 x3 x5 r0 r1) (eq_ix4 _)).trans ?_
    show val_main_v55 (F := Ideal) x1 x3 x5 r0 r1 (ix4 b h q k) = _
    rw [val_main_v55_apply, val_main_v54_apply, v52_real hA, v53_at]
    rfl
  rw [e1, e2]
  unfold vcol
  rw [mul_comm (soft _ q k : EReal), mul_assoc]

include hA in
/-- The first result. -/
theorem v59_real (a4 : Vec Ideal S2x768x32x128 .fp8e4m3) (h2 : ∀ b p h d, r2 (ix4 b p h d) = a4 (ix4 b p h d)) :
    val_main_v59 (F := Ideal) x1 x3 x5 r0 r1 r2 = outArr a4 x5 A := by
  funext i
  have h0 : (i 0).val < 2 := (i 0).isLt
  have h1 : (i 1).val < 768 := (i 1).isLt
  have h2' : (i 2).val < 4096 := (i 2).isLt
  rw [val_main_v59_apply, val_main_v58_apply, val_main_v57_apply]
  unfold outArr
  refine Eq.trans ?_ (v56_at hA a4 h2 (i 0) ⟨(i 2).val / 128, Nat.div_lt_of_lt_mul (i 2).isLt⟩ ⟨(i 2).val % 128, Nat.mod_lt _ (by decide)⟩ (i 1))
  refine congrArg (val_main_v56 (F := Ideal) x1 x3 x5 r0 r1 r2) ((eq_ix4 _).trans ?_)
  have f0 : (((i 0).val * 768 + (i 1).val) * 4096 + (i 2).val) / 3145728 = (i 0).val := by omega
  have f1 : (((i 0).val * 768 + (i 1).val) * 4096 + (i 2).val) / 4096 % 768 = (i 1).val := by omega
  have f2 : (((i 0).val * 768 + (i 1).val) * 4096 + (i 2).val) / 128 % 32 = (i 2).val / 128 := by omega
  have f3 : (((i 0).val * 768 + (i 1).val) * 4096 + (i 2).val) % 128 = (i 2).val % 128 := by omega
  exact congr (congr (congr (congrArg ix4 (Fin.ext f0)) (Fin.ext f2)) (Fin.ext f3)) (Fin.ext f1)

include hA in
/-- The second result. -/
theorem v34_arr : val_main_v34 (F := Ideal) x1 x3 r0 r1 = selArr A := by
  funext i
  exact (congrArg (val_main_v34 (F := Ideal) x1 x3 r0 r1) (eq_ix2 i)).trans (v34_real hA (i 0) (i 1))

end Cert.ReferenceIdeal.Read

end
-- ==== Proof.RefRegion.lean ====
module

public import proofs.«01_k».proof.Proof.RefOut
public import proofs.«01_k».proof.Proof.Gen.ReferenceIdeal.Run
public import Idealize.ShloMosaic.Lib.Pipeline.ValueKit

/-! What the reference's widening call leaves: the codes' values, entry by entry. -/

@[expose] public section

set_option maxRecDepth 16384

noncomputable section

namespace Cert.ReferenceIdeal.Gen

open Idealize.ShloMosaic Idealize.ShloMosaic.TcCoe Idealize.ShloMosaic.StableHlo

variable (m : (ℓ : Loc nD τ sig) → Buf (Elt Ideal) ℓ) (c : Dev nD)

theorem V_main_v0 : (V m c main_v0 : Vec Ideal S2x768x32x128 .fp8e4m3) =
    bitcastToFloat (F := Ideal) .fp8e4m3 (m ((c.tc : Thread nD τ).loc main_arg0) : Vec Ideal S2x768x32x128 .i8) := by
  show after hostOps0 (fun b => m (c, b)) (Proc.devRef .tc main_v0) = _
  simp only [hostOps0]
  after_results_simp
  all_goals rfl

theorem V_main_v1 : (V m c main_v1 : Vec Ideal S2x768x32x128 .fp8e4m3) =
    bitcastToFloat (F := Ideal) .fp8e4m3 (m ((c.tc : Thread nD τ).loc main_arg2) : Vec Ideal S2x768x32x128 .i8) := by
  show after hostOps0 (fun b => m (c, b)) (Proc.devRef .tc main_v1) = _
  simp only [hostOps0]
  after_results_simp
  all_goals rfl

theorem idxR : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0, 0, 0] ∧ win0_5.index t = ![0, 0, 0, 0] := by
  decide +kernel

theorem iblkR0 (t : Fin cfg0.N) (j : S2x768x32x128.Idx) : (iblk m c 0 t : Vec Ideal S2x768x32x128 .fp8e4m3) j =
    Ideal.ofBits .fp8e4m3 ((m ((c.tc : Thread nD τ).loc main_arg0) : Vec Ideal S2x768x32x128 .i8) j) := by
  have e : (iblk m c 0 t : Vec Ideal S2x768x32x128 .fp8e4m3) j = (V m c main_v0 : Vec Ideal S2x768x32x128 .fp8e4m3) j := by
    blk_ext [iblk, (idxR t).1]
  rw [e, V_main_v0]
  rfl

theorem iblkR1 (t : Fin cfg0.N) (j : S2x768x32x128.Idx) : (iblk m c 1 t : Vec Ideal S2x768x32x128 .fp8e4m3) j =
    Ideal.ofBits .fp8e4m3 ((m ((c.tc : Thread nD τ).loc main_arg2) : Vec Ideal S2x768x32x128 .i8) j) := by
  have e : (iblk m c 1 t : Vec Ideal S2x768x32x128 .fp8e4m3) j = (V m c main_v1 : Vec Ideal S2x768x32x128 .fp8e4m3) j := by
    blk_ext [iblk, (idxR t).2.1]
  rw [e, V_main_v1]
  rfl

theorem iblkR2 (t : Fin cfg0.N) (j : S2x768x32x128.Idx) : (iblk m c 2 t : Vec Ideal S2x768x32x128 .fp8e4m3) j =
    (m ((c.tc : Thread nD τ).loc main_arg4) : Vec Ideal S2x768x32x128 .fp8e4m3) j := by
  have e : (iblk m c 2 t : Vec Ideal S2x768x32x128 .fp8e4m3) j = (V m c main_arg4 : Vec Ideal S2x768x32x128 .fp8e4m3) j := by
    blk_ext [iblk, (idxR t).2.2.1]
  rw [e, V_main_arg4]

/-- The values of an array of codes. -/
def wide (x : Vec Ideal S2x768x32x128 .i8) : Vec Ideal S2x768x32x128 .f32 := fun j => Ideal.ofBits .fp8e4m3 (x j)

theorem pay1_apply (x : Vec Ideal S2x768x32x128 .fp8e4m3) (j : S2x768x32x128.Idx) : (k0_pay1 x) j = x j := by
  unfold k0_pay1
  pointwise

theorem pay2_apply (x : Vec Ideal S2x768x32x128 .fp8e4m3) (j : S2x768x32x128.Idx) : (k0_pay2 x) j = x j := by
  unfold k0_pay2
  pointwise

theorem reg0 : Value.reg_main_v2_0 m c = wide (m ((c.tc : Thread nD τ).loc main_arg0)) := by
  unfold Value.reg_main_v2_0
  refine (dats m 0 c).arrAt_eq_of_after_last 3 t0_0 (by decide +kernel) _ fun j => ?_
  blk_simp
  rw [after0_3]
  frame_out
  exact (pay1_apply _ j).trans (iblkR0 m c t0_0 j)

theorem reg1 : Value.reg_main_v2_1 m c = wide (m ((c.tc : Thread nD τ).loc main_arg2)) := by
  unfold Value.reg_main_v2_1
  refine (dats m 0 c).arrAt_eq_of_after_last 4 t0_0 (by decide +kernel) _ fun j => ?_
  blk_simp
  rw [after0_4]
  frame_out
  exact (pay2_apply _ j).trans (iblkR1 m c t0_0 j)

/-- The values of `v`'s codes, the same at every format. -/
def wideV (x : Vec Ideal S2x768x32x128 .fp8e4m3) : Vec Ideal S2x768x32x128 .bf16 := fun j => x j

theorem reg2 : Value.reg_main_v2_2 m c = wideV (m ((c.tc : Thread nD τ).loc main_arg4)) := by
  unfold Value.reg_main_v2_2
  refine (dats m 0 c).arrAt_eq_of_after_last 5 t0_0 (by decide +kernel) _ fun j => ?_
  blk_simp
  rw [after0_5]
  frame_out
  exact iblkR2 m c t0_0 j

end Cert.ReferenceIdeal.Gen

end
-- ==== Proof.Finite.lean ====
module

public import proofs.«01_k».proof.Proof.Spec
public import proofs.«01_k».proof.Proof.Gen.Pre_finite_qk

/-! What the precondition gives: codes that are numbers and finite scales, hence reals. -/

@[expose] public section

set_option maxRecDepth 16384

noncomputable section

namespace Cert.Spec

open Idealize.ShloMosaic Idealize.ShloMosaic.TcCoe Cert.Pre_finite_qk

/-- Only the two patterns that are no number have all ones below the sign. -/
theorem notNan : ∀ x : BitVec 8, x ≠ 0x7F#8 → x ≠ 0xFF#8 → ¬ ((x.extractLsb' 3 4).toNat = 15 ∧ (x.extractLsb' 0 3).toNat = 7) := by
  decide +kernel

/-- A code other than the two patterns that are no number stands for a real. -/
theorem e4m3_real (x : BitVec 8) (h1 : x ≠ 0x7F#8) (h2 : x ≠ 0xFF#8) : ∃ r : ℝ, Ideal.ofBits .fp8e4m3 x = (r : EReal) := by
  show ∃ r : ℝ, Ideal.e4m3fn x = (r : EReal)
  unfold Ideal.e4m3fn
  dsimp only
  rw [if_neg (notNan x h1 h2)]
  by_cases h : (x.extractLsb' 3 4).toNat = 0
  · rw [if_pos h]
    exact ⟨_, rfl⟩
  · rw [if_neg h]
    exact ⟨_, rfl⟩

theorem abs_real (x : EReal) (h : max x (-x) < ⊤) : ∃ r : ℝ, x = (r : EReal) := by
  induction x with
  | bot => simp at h
  | top => simp at h
  | coe r => exact ⟨r, rfl⟩

theorem ofBits_posInf : Ideal.ofBits .f32 0x7F800000#32 = ⊤ := by
  simp [Ideal.ofBits, Ideal.ieee, -EReal.coe_mul]

/-- What the precondition's comparison of codes says. -/
theorem code_ne (x : BitVec 8)
    (h : IntOp.andi (IntOp.cmpi .ne x 127#8) (IntOp.cmpi .ne x 255#8) = 1#1) : x ≠ 0x7F#8 ∧ x ≠ 0xFF#8 := by
  revert x
  decide +kernel

/-- What the precondition's comparison of scales says. -/
theorem scale_real (x : EReal) (h : Ideal.cmp .olt (max x (-x)) (Ideal.ofBits .f32 0x7F800000#32) = 1#1) :
    ∃ r : ℝ, x = (r : EReal) := by
  refine abs_real x ?_
  rw [ofBits_posInf] at h
  by_contra hn
  simp [Ideal.cmp, hn] at h

variable (a0 a2 : IVec S2x768x32x128 8) (a1 a3 : FVec Ideal S2x768x32 .f32)
  (a4 : FVec Ideal S2x768x32x128 .fp8e4m3) (a5 : FVec Ideal S2x768x32 .f32)

/-- Under the precondition the codes and scales of `q` and `k` are reals. -/
theorem reads_of_pre (h0 : (fn (F := Ideal) a0 a1 a2 a3 a4 a5).1 = fun _ => 1#1)
    (h1 : (fn (F := Ideal) a0 a1 a2 a3 a4 a5).2.1 = fun _ => 1#1)
    (h2 : (fn (F := Ideal) a0 a1 a2 a3 a4 a5).2.2.1 = fun _ => 1#1)
    (h3 : (fn (F := Ideal) a0 a1 a2 a3 a4 a5).2.2.2 = fun _ => 1#1) : ∃ A : Args, Reads a0 a1 a2 a3 A := by
  have e0 : ∀ i, ∃ r : ℝ, Ideal.ofBits .fp8e4m3 (a0 i) = (r : EReal) := fun i =>
    e4m3_real (a0 i) (code_ne (a0 i) (congrFun h0 i)).1 (code_ne (a0 i) (congrFun h0 i)).2
  have e1 : ∀ i, ∃ r : ℝ, (a1 i : EReal) = (r : EReal) := fun i => scale_real (a1 i) (congrFun h1 i)
  have e2 : ∀ i, ∃ r : ℝ, Ideal.ofBits .fp8e4m3 (a2 i) = (r : EReal) := fun i =>
    e4m3_real (a2 i) (code_ne (a2 i) (congrFun h2 i)).1 (code_ne (a2 i) (congrFun h2 i)).2
  have e3 : ∀ i, ∃ r : ℝ, (a3 i : EReal) = (r : EReal) := fun i => scale_real (a3 i) (congrFun h3 i)
  choose Q hQ using e0
  choose qs hqs using e1
  choose K hK using e2
  choose ks hks using e3
  exact ⟨⟨fun b p h d => Q (ix4 b p h d), fun b p h d => K (ix4 b p h d), fun b p h => qs (ix3 b p h), fun b p h => ks (ix3 b p h)⟩,
    ⟨fun b p h d => hQ _, fun b p h => hqs _, fun b p h d => hK _, fun b p h => hks _⟩⟩

end Cert.Spec

end
-- ==== Proof.Agree.lean ====
module

public import proofs.«01_k».proof.Proof.KernelVal
public import proofs.«01_k».proof.Proof.RefRegion
public import proofs.«01_k».proof.Proof.Finite
public import Idealize.ShloMosaic.Adequacy

/-! The two programs' runs, each ending at the arrays of the specification. -/

@[expose] public section

set_option maxRecDepth 16384

noncomputable section

open Idealize.ShloMosaic Idealize.ShloMosaic.TcCoe Idealize.SL.Sem Cert.Spec

namespace Cert.ReferenceIdeal.Read

open Cert.ReferenceIdeal.Gen Cert.ReferenceIdeal.Value

variable (m : (ℓ : Loc nD τ sig) → Buf (Elt Ideal) ℓ) (c : Dev nD) (A : Args)
  (hA : Reads (m ((c.tc : Thread nD τ).loc main_arg0)) (m ((c.tc : Thread nD τ).loc main_arg1))
    (m ((c.tc : Thread nD τ).loc main_arg2)) (m ((c.tc : Thread nD τ).loc main_arg3)) A)

include hA in
theorem holds : Holds (m ((c.tc : Thread nD τ).loc main_arg1)) (m ((c.tc : Thread nD τ).loc main_arg3))
    (wide (m ((c.tc : Thread nD τ).loc main_arg0))) (wide (m ((c.tc : Thread nD τ).loc main_arg2))) A :=
  ⟨hA.q, hA.qs, hA.k, hA.ks⟩

include hA in
theorem out59 : val_main_v59 (F := Ideal) (exitV m c (Proc.devRef .tc main_arg1)) (exitV m c (Proc.devRef .tc main_arg3))
    (exitV m c (Proc.devRef .tc main_arg5)) (exitV m c (Proc.devRef .tc main_v2_0)) (exitV m c (Proc.devRef .tc main_v2_1))
    (exitV m c (Proc.devRef .tc main_v2_2)) =
      outArr (m ((c.tc : Thread nD τ).loc main_arg4)) (m ((c.tc : Thread nD τ).loc main_arg5)) A := by
  rw [exit_main_arg1, exit_main_arg3, exit_main_arg5, exit_main_v2_0, exit_main_v2_1, exit_main_v2_2, reg0, reg1, reg2]
  exact v59_real (holds m c A hA) (m ((c.tc : Thread nD τ).loc main_arg4)) (fun _ _ _ _ => rfl)

include hA in
theorem out34 : val_main_v34 (F := Ideal) (exitV m c (Proc.devRef .tc main_arg1)) (exitV m c (Proc.devRef .tc main_arg3))
    (exitV m c (Proc.devRef .tc main_v2_0)) (exitV m c (Proc.devRef .tc main_v2_1)) = selArr A := by
  rw [exit_main_arg1, exit_main_arg3, exit_main_v2_0, exit_main_v2_1, reg0, reg1]
  exact v34_arr (holds m c A hA)

end Cert.ReferenceIdeal.Read

namespace Cert.Proof

/-- The kernel ends with the two arrays of the specification, its arguments unchanged. -/
theorem kernel_run (m : (ℓ : Loc Cert.KernelIdeal.nD Cert.KernelIdeal.τ Cert.KernelIdeal.sig) → Buf (Elt Ideal) ℓ)
    (g : Dev Cert.KernelIdeal.nD → PrngReg) (A : Dev Cert.KernelIdeal.nD → Args) (hA : ∀ c, Cert.KernelIdeal.Gen.ReadsAt m c (A c)) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v11_0) = Cert.KernelIdeal.Gen.outAt m c (A c)
        ∧ r.2.mem ((c.tc : Thread Cert.KernelIdeal.nD Cert.KernelIdeal.τ).loc Cert.KernelIdeal.main_v11_1) = selArr (A c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  θ_run_mono (Cert.KernelIdeal.Gen.run_main_quiescent m g) fun r h c =>
    ⟨Cert.KernelIdeal.Gen.arr6_eq m c (A c) (hA c) r h.1, Cert.KernelIdeal.Gen.arr7_eq m c (A c) (hA c) r h.1,
      Cert.KernelIdeal.Gen.args_of m r h.1 c⟩

/-- The reference ends with the two arrays of the specification, its arguments unchanged. -/
theorem reference_run (m : (ℓ : Loc Cert.ReferenceIdeal.nD Cert.ReferenceIdeal.τ Cert.ReferenceIdeal.sig) → Buf (Elt Ideal) ℓ)
    (g : Dev Cert.ReferenceIdeal.nD → PrngReg) (A : Dev Cert.ReferenceIdeal.nD → Args)
    (hA : ∀ c : Dev Cert.ReferenceIdeal.nD, Reads (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3)) (A c)) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v59) =
          outArr (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5)) (A c)
        ∧ r.2.mem ((c.tc : Thread Cert.ReferenceIdeal.nD Cert.ReferenceIdeal.τ).loc Cert.ReferenceIdeal.main_v34) = selArr (A c)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  θ_run_mono (Cert.ReferenceIdeal.Value.run m g) fun r h c =>
    ⟨(h c).1.trans ((Cert.ReferenceIdeal.Read.val_main_v59_eq (Cert.ReferenceIdeal.Value.exitV m c)).trans (Cert.ReferenceIdeal.Read.out59 m c (A c) (hA c))),
      (h c).2.1.trans ((Cert.ReferenceIdeal.Read.val_main_v34_eq (Cert.ReferenceIdeal.Value.exitV m c)).trans (Cert.ReferenceIdeal.Read.out34 m c (A c) (hA c))),
      (h c).2.2⟩

end Cert.Proof

end
-- ==== Proof.KernelRuns.lean ====
/- What the runs of the bit-level kernel's body share: its branch conditions in closed form over the grid's points, the
   memrefs the pipeline passes it, and the region's invariant with the scratch operand as a memref. -/
module

public import proofs.«01_k».proof.Proof.Gen.Kernel.Frame
public import proofs.«01_k».proof.Proof.Gen.Kernel.Skeleton
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points before point 8 — by arithmetic of the point. -/
theorem hcond0_1 : ∀ t : Fin cfg0.N, cond0_1 (grid0.coords t) ↔ t.val < 8 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := k0_cond3 i = 1#1
/-- It holds at the points from point 8 on — by arithmetic of the point. -/
theorem hcond0_2 : ∀ t : Fin cfg0.N, cond0_2 (grid0.coords t) ↔ 8 ≤ t.val :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ 8 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x4x768x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x768x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x768x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x4x768 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x4x768 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x768x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x768 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S768x768 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.KernelRunA.lean ====
/- The run of the bit-level kernel's body at the first point of the first pass: every input is handed back as it was, and the outputs and the
   scratch at some contents. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1368000 in
/-- The body's triple IN CASE A (`scf.if` 0 taken, `scf.if` 1 taken, `scf.if` 2 not taken: points 0): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x4x768x128 .fp8e4m3) (harg2 : arg2.IsWhole) (arg3 : Memref sig .tc .vmem S1x4x768x128 .fp8e4m3) (harg3 : arg3.IsWhole) (arg4 : Memref sig .tc .vmem S1x4x768x128 .fp8e4m3) (harg4 : arg4.IsWhole) (arg5 : Memref sig .tc .vmem S1x1x4x768 .f32) (harg5 : arg5.IsWhole) (arg6 : Memref sig .tc .vmem S1x1x4x768 .f32) (harg6 : arg6.IsWhole) (arg7 : Memref sig .tc .vmem S1x1x4x768 .f32) (harg7 : arg7.IsWhole) (arg8 : Memref sig .tc .vmem S1x768x512 .bf16) (harg8 : arg8.IsWhole) (arg9 : Memref sig .tc .vmem S2x768 .f32) (harg9 : arg9.IsWhole) (arg10 : Memref sig .tc .vmem S768x768 .f32) (harg10 : arg10.IsWhole) (hc0 : cond0_0 i) (hc1 : cond0_1 i) (hc2 : ¬cond0_2 i)
    (x0 : Vec F S1x4x768x128 .fp8e4m3) (x1 : Vec F S1x4x768x128 .fp8e4m3) (x2 : Vec F S1x4x768x128 .fp8e4m3) (x3 : Vec F S1x1x4x768 .f32) (x4 : Vec F S1x1x4x768 .f32) (x5 : Vec F S1x1x4x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_selective_attention i arg2 harg2 arg3 harg3 arg4 harg4 arg5 harg5 arg6 harg6 arg7 harg7 arg8 harg8 arg9 harg9 arg10 harg10) K := by
    intro E K
    simp only [cc0_selective_attention_eq_skeleton]; unfold cc0_selective_attention_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

end Cert.Kernel.Gen

end
-- ==== Proof.KernelRunB.lean ====
/- The run of the bit-level kernel's body at a point that is not the first of a pass: every input is handed back as it was, and the outputs and the
   scratch at some contents. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 15: 14 of 16): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x4x768x128 .fp8e4m3) (harg2 : arg2.IsWhole) (arg3 : Memref sig .tc .vmem S1x4x768x128 .fp8e4m3) (harg3 : arg3.IsWhole) (arg4 : Memref sig .tc .vmem S1x4x768x128 .fp8e4m3) (harg4 : arg4.IsWhole) (arg5 : Memref sig .tc .vmem S1x1x4x768 .f32) (harg5 : arg5.IsWhole) (arg6 : Memref sig .tc .vmem S1x1x4x768 .f32) (harg6 : arg6.IsWhole) (arg7 : Memref sig .tc .vmem S1x1x4x768 .f32) (harg7 : arg7.IsWhole) (arg8 : Memref sig .tc .vmem S1x768x512 .bf16) (harg8 : arg8.IsWhole) (arg9 : Memref sig .tc .vmem S2x768 .f32) (harg9 : arg9.IsWhole) (arg10 : Memref sig .tc .vmem S768x768 .f32) (harg10 : arg10.IsWhole) (hc0 : ¬cond0_0 i)
    (x0 : Vec F S1x4x768x128 .fp8e4m3) (x1 : Vec F S1x4x768x128 .fp8e4m3) (x2 : Vec F S1x4x768x128 .fp8e4m3) (x3 : Vec F S1x1x4x768 .f32) (x4 : Vec F S1x1x4x768 .f32) (x5 : Vec F S1x1x4x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_selective_attention i arg2 harg2 arg3 harg3 arg4 harg4 arg5 harg5 arg6 harg6 arg7 harg7 arg8 harg8 arg9 harg9 arg10 harg10) K := by
    intro E K
    simp only [cc0_selective_attention_eq_skeleton]; unfold cc0_selective_attention_skel
    simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

end Cert.Kernel.Gen

end
-- ==== Proof.KernelRunC.lean ====
/- The run of the bit-level kernel's body at the first point of the second pass: every input is handed back as it was, and the outputs and the
   scratch at some contents. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1368000 in
/-- The body's triple IN CASE C (`scf.if` 0 taken, `scf.if` 1 not taken, `scf.if` 2 taken: points 8): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S1x4x768x128 .fp8e4m3) (harg2 : arg2.IsWhole) (arg3 : Memref sig .tc .vmem S1x4x768x128 .fp8e4m3) (harg3 : arg3.IsWhole) (arg4 : Memref sig .tc .vmem S1x4x768x128 .fp8e4m3) (harg4 : arg4.IsWhole) (arg5 : Memref sig .tc .vmem S1x1x4x768 .f32) (harg5 : arg5.IsWhole) (arg6 : Memref sig .tc .vmem S1x1x4x768 .f32) (harg6 : arg6.IsWhole) (arg7 : Memref sig .tc .vmem S1x1x4x768 .f32) (harg7 : arg7.IsWhole) (arg8 : Memref sig .tc .vmem S1x768x512 .bf16) (harg8 : arg8.IsWhole) (arg9 : Memref sig .tc .vmem S2x768 .f32) (harg9 : arg9.IsWhole) (arg10 : Memref sig .tc .vmem S768x768 .f32) (harg10 : arg10.IsWhole) (hc0 : cond0_0 i) (hc1 : ¬cond0_1 i) (hc2 : cond0_2 i)
    (x0 : Vec F S1x4x768x128 .fp8e4m3) (x1 : Vec F S1x4x768x128 .fp8e4m3) (x2 : Vec F S1x4x768x128 .fp8e4m3) (x3 : Vec F S1x1x4x768 .f32) (x4 : Vec F S1x1x4x768 .f32) (x5 : Vec F S1x1x4x768 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_selective_attention i arg2 harg2 arg3 harg3 arg4 harg4 arg5 harg5 arg6 harg6 arg7 harg7 arg8 harg8 arg9 harg9 arg10 harg10) K := by
    intro E K
    simp only [cc0_selective_attention_eq_skeleton]; unfold cc0_selective_attention_skel
    simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

end Cert.Kernel.Gen

end
-- ==== Proof.KernelFrame.lean ====
/- The frame of the bit-level kernel: from any memory every run ends, the argument arrays unchanged and every semaphore
   counter at zero. Nothing is stated of what the outputs hold. -/
module

public import proofs.«01_k».proof.Proof.KernelRunA
public import proofs.«01_k».proof.Proof.KernelRunB
public import proofs.«01_k».proof.Proof.KernelRunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val % 8 = 0
  · by_cases h1 : t.val < 8
    · by_cases h2 : 8 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, H6, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · by_cases h2 : 8 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t) (iblk m c 5 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, H6, H7, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · exfalso; omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

/-- The arrays' contents from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  unchanged_of m ρ (fun c => (dats m 0 c).toRForget forgets0) (A_eq m) (run_main m ρ)

/-- The frame claim's statement at any number format: every run ends, the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_finite_qk
public import proofs.«01_k».proof.Proof.Agree
public import proofs.«01_k».proof.Proof.KernelFrame
public import Idealize.ShloMosaic.Adequacy
public import Idealize.ShloMosaic.Init

@[expose] public section

noncomputable section

namespace Cert.Proof

open Idealize.ShloMosaic Idealize.SL.Sem Cert.Kernel

/-- The constants the idealized kernel names: 1/ln 2, the masked logit, and the score scale over ln 2. -/
theorem constants : Cert.preserves_Kernel_KernelIdeal :=
  ⟨IdealRules.named_const.statement Cert.KernelIdeal.κ "log2e" .f32 0x3FB8AA3B#32 _ rfl,
    IdealRules.named_const.statement Cert.KernelIdeal.κ "masked" .f32 0x7F61B1E6#32 _ rfl,
    IdealRules.named_const.statement Cert.KernelIdeal.κ "sm_scale_log2e" .f32 0x3E0293EE#32 _ rfl⟩

/-- The idealized kernel and the idealized reference end with the same two results. -/
theorem agree : Cert.algebraic_KernelIdeal_ReferenceIdeal_pre_finite_qk := by
  intro m g m' g' hpre hm
  have hex : ∀ c : Dev Cert.KernelIdeal.nD, ∃ A : Cert.Spec.Args, Cert.KernelIdeal.Gen.ReadsAt m c A := fun c =>
    Cert.Spec.reads_of_pre _ _ _ _ _ _ (hpre c).1 (hpre c).2.1 (hpre c).2.2.1 (hpre c).2.2.2
  choose A hA using hex
  refine ⟨fun c => Cert.KernelIdeal.Gen.outAt m c (A c), fun c => Cert.Spec.selArr (A c), kernel_run m g A hA, ?_⟩
  refine θ_run_mono (reference_run m' g' A fun c => ?_) fun r h c => ⟨(h c).1.trans ?_, (h c).2⟩
  · rw [(hm c).1, (hm c).2.1, (hm c).2.2.1, (hm c).2.2.2.1]
    exact hA c
  · rw [(hm c).2.2.2.2.1, (hm c).2.2.2.2.2]
    rfl

theorem claim : Cert.Claim := ⟨Cert.Kernel.Gen.facts, Cert.KernelIdeal.Gen.facts, Cert.ReferenceIdeal.Gen.facts, Cert.Pre_finite_qk.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, constants, agree⟩

end Cert.Proof

end
